-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 2048]⟩ ⟨2, ![32768, 2048]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![32768, 1024]⟩ ⟨2, ![32768, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S32768x1024 : Shape := ⟨2, ![32768, 1024]⟩
abbrev S8192x1024 : Shape := ⟨2, ![8192, 1024]⟩
abbrev S4x1024x1024 : Shape := ⟨3, ![4, 1024, 1024]⟩
abbrev S17 : Shape := ⟨1, ![17]⟩
abbrev S4 : Shape := ⟨1, ![4]⟩
abbrev S1 : Shape := ⟨1, ![1]⟩
abbrev S_ : Shape := ⟨0, ![]⟩
abbrev S512x1024 : Shape := ⟨2, ![512, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16384x2048, .f32⟩
  | .hbm, ⟨1, _⟩ => ⟨S32768x1024, .f32⟩
  | .local _ .vmem, ⟨0, _⟩ => ⟨S8192x1024, .f32⟩
  | .local _ .vmem, ⟨1, _⟩ => ⟨S4x1024x1024, .f32⟩
  | _, _ => ⟨S16384x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  (ofTc nBuf bufTy 1 93 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let v9 : BitVec 32 := Scalar.addi v8 c0_i32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1024_i32 : BitVec 32 := 1024#32
  let v10 : BitVec 32 := Scalar.muli v6 c1024_i32
  ![v9.toNat, v10.toNat]
def k0_off2 (d0 : Dev nD) (c7680_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32_66 : BitVec 32 := 8192#32
  let v113 : BitVec 32 := Scalar.muli v2 c8192_i32_66
  let v114 : BitVec 32 := Scalar.addi v113 c7680_i32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1024_i32_67 : BitVec 32 := 1024#32
  let v115 : BitVec 32 := Scalar.muli v6 c1024_i32_67
  ![v114.toNat, v115.toNat]
def k0_off3 (d0 : Dev nD) : Fin 2 → Nat :=
  let c0_i32_79 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_74 : BitVec 32 := 1024#32
  let v127 : BitVec 32 := Scalar.muli v5 c1024_i32_74
  ![0, v127.toNat]
def k0_off4 (d0 : Dev nD) : Fin 2 → Nat :=
  let c1024_i32_85 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_80 : BitVec 32 := 1024#32
  let v133 : BitVec 32 := Scalar.muli v5 c1024_i32_80
  ![1024, v133.toNat]
def k0_off5 (d0 : Dev nD) : Fin 2 → Nat :=
  let c2048_i32_91 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_86 : BitVec 32 := 1024#32
  let v139 : BitVec 32 := Scalar.muli v5 c1024_i32_86
  ![2048, v139.toNat]
def k0_off6 (d0 : Dev nD) : Fin 2 → Nat :=
  let c3072_i32_97 : BitVec 32 := 3072#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_92 : BitVec 32 := 1024#32
  let v145 : BitVec 32 := Scalar.muli v5 c1024_i32_92
  ![3072, v145.toNat]
def k0_dev1 (d0 : Dev nD) : Nat :=
  let c0_i32_100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_99 : BitVec 32 := 2#32
  let v152 : BitVec 32 := Scalar.muli v2 c2_i32_99
  let v153 : BitVec 32 := Scalar.addi c0_i32_100 v152
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_101 : BitVec 32 := 1#32
  let v154 : BitVec 32 := Scalar.muli v6 c1_i32_101
  let v155 : BitVec 32 := Scalar.addi v153 v154
  v155.toNat
def k0_dev2 (d0 : Dev nD) : Nat :=
  let c0_i32_104 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_103 : BitVec 32 := 2#32
  let v156 : BitVec 32 := Scalar.muli v7 c2_i32_103
  let v157 : BitVec 32 := Scalar.addi c0_i32_104 v156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_105 : BitVec 32 := 1#32
  let v158 : BitVec 32 := Scalar.muli v5 c1_i32_105
  let v159 : BitVec 32 := Scalar.addi v157 v158
  v159.toNat
def k0_off7 (d0 : Dev nD) (c0_i32_114 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v167 : BitVec 32 := Scalar.muli v5 c16384_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32_113 : BitVec 32 := 8192#32
  let v168 : BitVec 32 := Scalar.muli v2 c8192_i32_113
  let v169 : BitVec 32 := Scalar.addi v167 v168
  let v170 : BitVec 32 := Scalar.addi v169 c0_i32_114
  let c0_i32_120 : BitVec 32 := 0#32
  ![v170.toNat, 0]
def k0_dev3 (d0 : Dev nD) : Nat :=
  let c0_i32_118 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_117 : BitVec 32 := 2#32
  let v171 : BitVec 32 := Scalar.muli v2 c2_i32_117
  let v172 : BitVec 32 := Scalar.addi c0_i32_118 v171
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_119 : BitVec 32 := 1#32
  let v173 : BitVec 32 := Scalar.muli v6 c1_i32_119
  let v174 : BitVec 32 := Scalar.addi v172 v173
  v174.toNat
def k0_dev4 (d0 : Dev nD) : Nat :=
  let c0_i32_135 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_134 : BitVec 32 := 2#32
  let v192 : BitVec 32 := Scalar.muli v2 c2_i32_134
  let v193 : BitVec 32 := Scalar.addi c0_i32_135 v192
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_136 : BitVec 32 := 1#32
  let v194 : BitVec 32 := Scalar.muli v6 c1_i32_136
  let v195 : BitVec 32 := Scalar.addi v193 v194
  v195.toNat
def k0_dev5 (d0 : Dev nD) : Nat :=
  let c0_i32_152 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_151 : BitVec 32 := 2#32
  let v213 : BitVec 32 := Scalar.muli v2 c2_i32_151
  let v214 : BitVec 32 := Scalar.addi c0_i32_152 v213
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_153 : BitVec 32 := 1#32
  let v215 : BitVec 32 := Scalar.muli v6 c1_i32_153
  let v216 : BitVec 32 := Scalar.addi v214 v215
  v216.toNat
def k0_dev6 (d0 : Dev nD) : Nat :=
  let c0_i32_169 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_168 : BitVec 32 := 2#32
  let v234 : BitVec 32 := Scalar.muli v2 c2_i32_168
  let v235 : BitVec 32 := Scalar.addi c0_i32_169 v234
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_170 : BitVec 32 := 1#32
  let v236 : BitVec 32 := Scalar.muli v6 c1_i32_170
  let v237 : BitVec 32 := Scalar.addi v235 v236
  v237.toNat
def k0_dev7 (d0 : Dev nD) : Nat :=
  let c0_i32_186 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_185 : BitVec 32 := 2#32
  let v255 : BitVec 32 := Scalar.muli v2 c2_i32_185
  let v256 : BitVec 32 := Scalar.addi c0_i32_186 v255
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_187 : BitVec 32 := 1#32
  let v257 : BitVec 32 := Scalar.muli v6 c1_i32_187
  let v258 : BitVec 32 := Scalar.addi v256 v257
  v258.toNat
def k0_dev8 (d0 : Dev nD) : Nat :=
  let c0_i32_203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_202 : BitVec 32 := 2#32
  let v276 : BitVec 32 := Scalar.muli v2 c2_i32_202
  let v277 : BitVec 32 := Scalar.addi c0_i32_203 v276
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_204 : BitVec 32 := 1#32
  let v278 : BitVec 32 := Scalar.muli v6 c1_i32_204
  let v279 : BitVec 32 := Scalar.addi v277 v278
  v279.toNat
def k0_dev9 (d0 : Dev nD) : Nat :=
  let c0_i32_220 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_219 : BitVec 32 := 2#32
  let v297 : BitVec 32 := Scalar.muli v2 c2_i32_219
  let v298 : BitVec 32 := Scalar.addi c0_i32_220 v297
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_221 : BitVec 32 := 1#32
  let v299 : BitVec 32 := Scalar.muli v6 c1_i32_221
  let v300 : BitVec 32 := Scalar.addi v298 v299
  v300.toNat
def k0_dev10 (d0 : Dev nD) : Nat :=
  let c0_i32_237 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_236 : BitVec 32 := 2#32
  let v318 : BitVec 32 := Scalar.muli v2 c2_i32_236
  let v319 : BitVec 32 := Scalar.addi c0_i32_237 v318
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_238 : BitVec 32 := 1#32
  let v320 : BitVec 32 := Scalar.muli v6 c1_i32_238
  let v321 : BitVec 32 := Scalar.addi v319 v320
  v321.toNat
def k0_dev11 (d0 : Dev nD) : Nat :=
  let c0_i32_254 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_253 : BitVec 32 := 2#32
  let v339 : BitVec 32 := Scalar.muli v2 c2_i32_253
  let v340 : BitVec 32 := Scalar.addi c0_i32_254 v339
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_255 : BitVec 32 := 1#32
  let v341 : BitVec 32 := Scalar.muli v6 c1_i32_255
  let v342 : BitVec 32 := Scalar.addi v340 v341
  v342.toNat
def k0_dev12 (d0 : Dev nD) : Nat :=
  let c0_i32_271 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_270 : BitVec 32 := 2#32
  let v360 : BitVec 32 := Scalar.muli v2 c2_i32_270
  let v361 : BitVec 32 := Scalar.addi c0_i32_271 v360
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_272 : BitVec 32 := 1#32
  let v362 : BitVec 32 := Scalar.muli v6 c1_i32_272
  let v363 : BitVec 32 := Scalar.addi v361 v362
  v363.toNat
def k0_dev13 (d0 : Dev nD) : Nat :=
  let c0_i32_288 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_287 : BitVec 32 := 2#32
  let v381 : BitVec 32 := Scalar.muli v2 c2_i32_287
  let v382 : BitVec 32 := Scalar.addi c0_i32_288 v381
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_289 : BitVec 32 := 1#32
  let v383 : BitVec 32 := Scalar.muli v6 c1_i32_289
  let v384 : BitVec 32 := Scalar.addi v382 v383
  v384.toNat
def k0_dev14 (d0 : Dev nD) : Nat :=
  let c0_i32_305 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_304 : BitVec 32 := 2#32
  let v402 : BitVec 32 := Scalar.muli v2 c2_i32_304
  let v403 : BitVec 32 := Scalar.addi c0_i32_305 v402
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_306 : BitVec 32 := 1#32
  let v404 : BitVec 32 := Scalar.muli v6 c1_i32_306
  let v405 : BitVec 32 := Scalar.addi v403 v404
  v405.toNat
def k0_dev15 (d0 : Dev nD) : Nat :=
  let c0_i32_322 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_321 : BitVec 32 := 2#32
  let v423 : BitVec 32 := Scalar.muli v2 c2_i32_321
  let v424 : BitVec 32 := Scalar.addi c0_i32_322 v423
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_323 : BitVec 32 := 1#32
  let v425 : BitVec 32 := Scalar.muli v6 c1_i32_323
  let v426 : BitVec 32 := Scalar.addi v424 v425
  v426.toNat
def k0_dev16 (d0 : Dev nD) : Nat :=
  let c0_i32_339 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_338 : BitVec 32 := 2#32
  let v444 : BitVec 32 := Scalar.muli v2 c2_i32_338
  let v445 : BitVec 32 := Scalar.addi c0_i32_339 v444
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_340 : BitVec 32 := 1#32
  let v446 : BitVec 32 := Scalar.muli v6 c1_i32_340
  let v447 : BitVec 32 := Scalar.addi v445 v446
  v447.toNat
def k0_dev17 (d0 : Dev nD) : Nat :=
  let c0_i32_356 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_355 : BitVec 32 := 2#32
  let v465 : BitVec 32 := Scalar.muli v2 c2_i32_355
  let v466 : BitVec 32 := Scalar.addi c0_i32_356 v465
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_357 : BitVec 32 := 1#32
  let v467 : BitVec 32 := Scalar.muli v6 c1_i32_357
  let v468 : BitVec 32 := Scalar.addi v466 v467
  v468.toNat
def k0_off8 (d0 : Dev nD) (c7680_i32_369 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_367 : BitVec 32 := 16384#32
  let v482 : BitVec 32 := Scalar.muli v5 c16384_i32_367
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32_368 : BitVec 32 := 8192#32
  let v483 : BitVec 32 := Scalar.muli v2 c8192_i32_368
  let v484 : BitVec 32 := Scalar.addi v482 v483
  let v485 : BitVec 32 := Scalar.addi v484 c7680_i32_369
  let c0_i32_375 : BitVec 32 := 0#32
  ![v485.toNat, 0]
def k0_dev18 (d0 : Dev nD) : Nat :=
  let c0_i32_373 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_372 : BitVec 32 := 2#32
  let v486 : BitVec 32 := Scalar.muli v2 c2_i32_372
  let v487 : BitVec 32 := Scalar.addi c0_i32_373 v486
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_374 : BitVec 32 := 1#32
  let v488 : BitVec 32 := Scalar.muli v6 c1_i32_374
  let v489 : BitVec 32 := Scalar.addi v487 v488
  v489.toNat
def k0_dev19 (d0 : Dev nD) : Nat :=
  let c0_i32_390 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_389 : BitVec 32 := 2#32
  let v507 : BitVec 32 := Scalar.muli v2 c2_i32_389
  let v508 : BitVec 32 := Scalar.addi c0_i32_390 v507
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_391 : BitVec 32 := 1#32
  let v509 : BitVec 32 := Scalar.muli v6 c1_i32_391
  let v510 : BitVec 32 := Scalar.addi v508 v509
  v510.toNat
def k0_off9 (d0 : Dev nD) (c0_i32_397 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c16384_i32_395 : BitVec 32 := 16384#32
  let v517 : BitVec 32 := Scalar.muli v6 c16384_i32_395
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32_396 : BitVec 32 := 8192#32
  let v518 : BitVec 32 := Scalar.muli v2 c8192_i32_396
  let v519 : BitVec 32 := Scalar.addi v517 v518
  let v520 : BitVec 32 := Scalar.addi v519 c0_i32_397
  let c0_i32_403 : BitVec 32 := 0#32
  ![v520.toNat, 0]
def k0_dev20 (d0 : Dev nD) : Nat :=
  let c0_i32_412 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_411 : BitVec 32 := 2#32
  let v533 : BitVec 32 := Scalar.muli v7 c2_i32_411
  let v534 : BitVec 32 := Scalar.addi c0_i32_412 v533
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_413 : BitVec 32 := 1#32
  let v535 : BitVec 32 := Scalar.muli v5 c1_i32_413
  let v536 : BitVec 32 := Scalar.addi v534 v535
  v536.toNat
def k0_dev21 (d0 : Dev nD) : Nat :=
  let c0_i32_433 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_432 : BitVec 32 := 2#32
  let v559 : BitVec 32 := Scalar.muli v7 c2_i32_432
  let v560 : BitVec 32 := Scalar.addi c0_i32_433 v559
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_434 : BitVec 32 := 1#32
  let v561 : BitVec 32 := Scalar.muli v5 c1_i32_434
  let v562 : BitVec 32 := Scalar.addi v560 v561
  v562.toNat
def k0_off10 (d0 : Dev nD) (c0_i32_444 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_443 : BitVec 32 := 16384#32
  let v575 : BitVec 32 := Scalar.muli v5 c16384_i32_443
  let v576 : BitVec 32 := Scalar.addi v575 c0_i32_444
  let c0_i32_447 : BitVec 32 := 0#32
  ![v576.toNat, 0]
def k0_off11 (d0 : Dev nD) : Fin 2 → Nat :=
  let c4096_i32_462 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_457 : BitVec 32 := 1024#32
  let v589 : BitVec 32 := Scalar.muli v5 c1024_i32_457
  ![4096, v589.toNat]
def k0_dev22 (d0 : Dev nD) : Nat :=
  let c0_i32_480 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_479 : BitVec 32 := 2#32
  let v611 : BitVec 32 := Scalar.muli v7 c2_i32_479
  let v612 : BitVec 32 := Scalar.addi c0_i32_480 v611
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_481 : BitVec 32 := 1#32
  let v613 : BitVec 32 := Scalar.muli v5 c1_i32_481
  let v614 : BitVec 32 := Scalar.addi v612 v613
  v614.toNat
def k0_off12 (d0 : Dev nD) : Fin 2 → Nat :=
  let c5120_i32_509 : BitVec 32 := 5120#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_504 : BitVec 32 := 1024#32
  let v641 : BitVec 32 := Scalar.muli v5 c1024_i32_504
  ![5120, v641.toNat]
def k0_dev23 (d0 : Dev nD) : Nat :=
  let c0_i32_527 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_526 : BitVec 32 := 2#32
  let v663 : BitVec 32 := Scalar.muli v7 c2_i32_526
  let v664 : BitVec 32 := Scalar.addi c0_i32_527 v663
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_528 : BitVec 32 := 1#32
  let v665 : BitVec 32 := Scalar.muli v5 c1_i32_528
  let v666 : BitVec 32 := Scalar.addi v664 v665
  v666.toNat
def k0_off13 (d0 : Dev nD) : Fin 2 → Nat :=
  let c6144_i32_556 : BitVec 32 := 6144#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_551 : BitVec 32 := 1024#32
  let v693 : BitVec 32 := Scalar.muli v5 c1024_i32_551
  ![6144, v693.toNat]
def k0_dev24 (d0 : Dev nD) : Nat :=
  let c0_i32_574 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_573 : BitVec 32 := 2#32
  let v715 : BitVec 32 := Scalar.muli v7 c2_i32_573
  let v716 : BitVec 32 := Scalar.addi c0_i32_574 v715
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_575 : BitVec 32 := 1#32
  let v717 : BitVec 32 := Scalar.muli v5 c1_i32_575
  let v718 : BitVec 32 := Scalar.addi v716 v717
  v718.toNat
def k0_off14 (d0 : Dev nD) : Fin 2 → Nat :=
  let c7168_i32_603 : BitVec 32 := 7168#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_598 : BitVec 32 := 1024#32
  let v745 : BitVec 32 := Scalar.muli v5 c1024_i32_598
  ![7168, v745.toNat]
def k0_dev25 (d0 : Dev nD) : Nat :=
  let c0_i32_621 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_620 : BitVec 32 := 2#32
  let v767 : BitVec 32 := Scalar.muli v7 c2_i32_620
  let v768 : BitVec 32 := Scalar.addi c0_i32_621 v767
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_622 : BitVec 32 := 1#32
  let v769 : BitVec 32 := Scalar.muli v5 c1_i32_622
  let v770 : BitVec 32 := Scalar.addi v768 v769
  v770.toNat
def k0_off15 (d0 : Dev nD) : Fin 2 → Nat :=
  let c8192_i32_650 : BitVec 32 := 8192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_645 : BitVec 32 := 1024#32
  let v797 : BitVec 32 := Scalar.muli v5 c1024_i32_645
  ![8192, v797.toNat]
def k0_dev26 (d0 : Dev nD) : Nat :=
  let c0_i32_668 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_667 : BitVec 32 := 2#32
  let v819 : BitVec 32 := Scalar.muli v7 c2_i32_667
  let v820 : BitVec 32 := Scalar.addi c0_i32_668 v819
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_669 : BitVec 32 := 1#32
  let v821 : BitVec 32 := Scalar.muli v5 c1_i32_669
  let v822 : BitVec 32 := Scalar.addi v820 v821
  v822.toNat
def k0_off16 (d0 : Dev nD) : Fin 2 → Nat :=
  let c9216_i32 : BitVec 32 := 9216#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_692 : BitVec 32 := 1024#32
  let v849 : BitVec 32 := Scalar.muli v5 c1024_i32_692
  ![9216, v849.toNat]
def k0_dev27 (d0 : Dev nD) : Nat :=
  let c0_i32_714 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_713 : BitVec 32 := 2#32
  let v871 : BitVec 32 := Scalar.muli v7 c2_i32_713
  let v872 : BitVec 32 := Scalar.addi c0_i32_714 v871
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_715 : BitVec 32 := 1#32
  let v873 : BitVec 32 := Scalar.muli v5 c1_i32_715
  let v874 : BitVec 32 := Scalar.addi v872 v873
  v874.toNat
def k0_off17 (d0 : Dev nD) : Fin 2 → Nat :=
  let c10240_i32 : BitVec 32 := 10240#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_738 : BitVec 32 := 1024#32
  let v901 : BitVec 32 := Scalar.muli v5 c1024_i32_738
  ![10240, v901.toNat]
def k0_dev28 (d0 : Dev nD) : Nat :=
  let c0_i32_760 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_759 : BitVec 32 := 2#32
  let v923 : BitVec 32 := Scalar.muli v7 c2_i32_759
  let v924 : BitVec 32 := Scalar.addi c0_i32_760 v923
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_761 : BitVec 32 := 1#32
  let v925 : BitVec 32 := Scalar.muli v5 c1_i32_761
  let v926 : BitVec 32 := Scalar.addi v924 v925
  v926.toNat
def k0_off18 (d0 : Dev nD) : Fin 2 → Nat :=
  let c11264_i32 : BitVec 32 := 11264#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_784 : BitVec 32 := 1024#32
  let v953 : BitVec 32 := Scalar.muli v5 c1024_i32_784
  ![11264, v953.toNat]
def k0_dev29 (d0 : Dev nD) : Nat :=
  let c0_i32_806 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_805 : BitVec 32 := 2#32
  let v975 : BitVec 32 := Scalar.muli v7 c2_i32_805
  let v976 : BitVec 32 := Scalar.addi c0_i32_806 v975
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_807 : BitVec 32 := 1#32
  let v977 : BitVec 32 := Scalar.muli v5 c1_i32_807
  let v978 : BitVec 32 := Scalar.addi v976 v977
  v978.toNat
def k0_off19 (d0 : Dev nD) : Fin 2 → Nat :=
  let c12288_i32 : BitVec 32 := 12288#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_830 : BitVec 32 := 1024#32
  let v1005 : BitVec 32 := Scalar.muli v5 c1024_i32_830
  ![12288, v1005.toNat]
def k0_dev30 (d0 : Dev nD) : Nat :=
  let c0_i32_852 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_851 : BitVec 32 := 2#32
  let v1027 : BitVec 32 := Scalar.muli v7 c2_i32_851
  let v1028 : BitVec 32 := Scalar.addi c0_i32_852 v1027
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_853 : BitVec 32 := 1#32
  let v1029 : BitVec 32 := Scalar.muli v5 c1_i32_853
  let v1030 : BitVec 32 := Scalar.addi v1028 v1029
  v1030.toNat
def k0_off20 (d0 : Dev nD) : Fin 2 → Nat :=
  let c13312_i32 : BitVec 32 := 13312#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_876 : BitVec 32 := 1024#32
  let v1057 : BitVec 32 := Scalar.muli v5 c1024_i32_876
  ![13312, v1057.toNat]
def k0_dev31 (d0 : Dev nD) : Nat :=
  let c0_i32_898 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_897 : BitVec 32 := 2#32
  let v1079 : BitVec 32 := Scalar.muli v7 c2_i32_897
  let v1080 : BitVec 32 := Scalar.addi c0_i32_898 v1079
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_899 : BitVec 32 := 1#32
  let v1081 : BitVec 32 := Scalar.muli v5 c1_i32_899
  let v1082 : BitVec 32 := Scalar.addi v1080 v1081
  v1082.toNat
def k0_off21 (d0 : Dev nD) : Fin 2 → Nat :=
  let c14336_i32 : BitVec 32 := 14336#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_922 : BitVec 32 := 1024#32
  let v1109 : BitVec 32 := Scalar.muli v5 c1024_i32_922
  ![14336, v1109.toNat]
def k0_dev32 (d0 : Dev nD) : Nat :=
  let c0_i32_944 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_943 : BitVec 32 := 2#32
  let v1131 : BitVec 32 := Scalar.muli v7 c2_i32_943
  let v1132 : BitVec 32 := Scalar.addi c0_i32_944 v1131
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_945 : BitVec 32 := 1#32
  let v1133 : BitVec 32 := Scalar.muli v5 c1_i32_945
  let v1134 : BitVec 32 := Scalar.addi v1132 v1133
  v1134.toNat
def k0_off22 (d0 : Dev nD) : Fin 2 → Nat :=
  let c15360_i32 : BitVec 32 := 15360#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_968 : BitVec 32 := 1024#32
  let v1161 : BitVec 32 := Scalar.muli v5 c1024_i32_968
  ![15360, v1161.toNat]
def k0_dev33 (d0 : Dev nD) : Nat :=
  let c0_i32_990 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_989 : BitVec 32 := 2#32
  let v1183 : BitVec 32 := Scalar.muli v7 c2_i32_989
  let v1184 : BitVec 32 := Scalar.addi c0_i32_990 v1183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_991 : BitVec 32 := 1#32
  let v1185 : BitVec 32 := Scalar.muli v5 c1_i32_991
  let v1186 : BitVec 32 := Scalar.addi v1184 v1185
  v1186.toNat
def k0_dev34 (d0 : Dev nD) : Nat :=
  let c0_i32_1024 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1023 : BitVec 32 := 2#32
  let v1222 : BitVec 32 := Scalar.muli v7 c2_i32_1023
  let v1223 : BitVec 32 := Scalar.addi c0_i32_1024 v1222
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1025 : BitVec 32 := 1#32
  let v1224 : BitVec 32 := Scalar.muli v5 c1_i32_1025
  let v1225 : BitVec 32 := Scalar.addi v1223 v1224
  v1225.toNat
def k0_off23 (d0 : Dev nD) (c7680_i32_1043 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c16384_i32_1041 : BitVec 32 := 16384#32
  let v1245 : BitVec 32 := Scalar.muli v6 c16384_i32_1041
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32_1042 : BitVec 32 := 8192#32
  let v1246 : BitVec 32 := Scalar.muli v2 c8192_i32_1042
  let v1247 : BitVec 32 := Scalar.addi v1245 v1246
  let v1248 : BitVec 32 := Scalar.addi v1247 c7680_i32_1043
  let c0_i32_1049 : BitVec 32 := 0#32
  ![v1248.toNat, 0]
def k0_dev35 (d0 : Dev nD) : Nat :=
  let c0_i32_1058 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1057 : BitVec 32 := 2#32
  let v1261 : BitVec 32 := Scalar.muli v7 c2_i32_1057
  let v1262 : BitVec 32 := Scalar.addi c0_i32_1058 v1261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1059 : BitVec 32 := 1#32
  let v1263 : BitVec 32 := Scalar.muli v5 c1_i32_1059
  let v1264 : BitVec 32 := Scalar.addi v1262 v1263
  v1264.toNat
def k0_dev36 (d0 : Dev nD) : Nat :=
  let c0_i32_1092 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1091 : BitVec 32 := 2#32
  let v1300 : BitVec 32 := Scalar.muli v7 c2_i32_1091
  let v1301 : BitVec 32 := Scalar.addi c0_i32_1092 v1300
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1093 : BitVec 32 := 1#32
  let v1302 : BitVec 32 := Scalar.muli v5 c1_i32_1093
  let v1303 : BitVec 32 := Scalar.addi v1301 v1302
  v1303.toNat
def k0_off24 (d0 : Dev nD) (c0_i32_1293 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c16384_i32_1290 : BitVec 32 := 16384#32
  let v1487 : BitVec 32 := Scalar.muli v6 c16384_i32_1290
  let c1_i32_1291 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1488 : BitVec 32 := Scalar.subi c1_i32_1291 v2
  let c8192_i32_1292 : BitVec 32 := 8192#32
  let v1489 : BitVec 32 := Scalar.muli v1488 c8192_i32_1292
  let v1490 : BitVec 32 := Scalar.addi v1487 v1489
  let v1491 : BitVec 32 := Scalar.addi v1490 c0_i32_1293
  let c0_i32_1299 : BitVec 32 := 0#32
  ![v1491.toNat, 0]
def k0_off25 (d0 : Dev nD) (c7680_i32_1578 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c16384_i32_1575 : BitVec 32 := 16384#32
  let v1802 : BitVec 32 := Scalar.muli v6 c16384_i32_1575
  let c1_i32_1576 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1803 : BitVec 32 := Scalar.subi c1_i32_1576 v2
  let c8192_i32_1577 : BitVec 32 := 8192#32
  let v1804 : BitVec 32 := Scalar.muli v1803 c8192_i32_1577
  let v1805 : BitVec 32 := Scalar.addi v1802 v1804
  let v1806 : BitVec 32 := Scalar.addi v1805 c7680_i32_1578
  let c0_i32_1584 : BitVec 32 := 0#32
  ![v1806.toNat, 0]
-- ==== ReferenceIdeal.lean ====
abbrev S32768x2048 : Shape := ⟨2, ![32768, 2048]⟩

abbrev nBuf : Space → Nat
  | .hbm => 1
  | .vmem => 0
  | .smem => 0
  | _ => 0

abbrev bufTy : (tb : Table) → Fin (tcTables nBuf tb) → BufTy
  | .hbm, ⟨0, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Program.lean ====
/-
The kernel's body as a short program: seven loops over the chunks.

The printed body is one straight line of some two hundred memory operations. Here the same operations are listed by
loops over the chunk number, and the printed body is shown to be that list, run in order.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.Transpose

open Cert.KernelIdeal Cert.KernelIdeal.Gen
open Idealize.ShloMosaic Idealize.SL.Sem

variable {F : FTy → Type} [FloatOps F]

/-! ## Chunks -/

/-- The rows of chunk `k`: fifteen chunks of 512 rows, then two of 256. -/
def rows (k : Fin 17) : ℕ := if k.val < 15 then 512 else 256
/-- The first row of chunk `k`, counted from the start of the half it cuts. -/
def start (k : Fin 17) : ℕ := if k.val < 16 then 512 * k.val else 7936

/-- The shape of chunk `k`. -/
abbrev SC (k : Fin 17) : Shape := ⟨2, ![rows k, 1024]⟩

/-- The chunk's start as the kernel's word. -/
abbrev word (k : Fin 17) : BitVec 32 := BitVec.ofNat 32 (start k)

theorem inb_x : ∀ (d : Dev nD) (k : Fin 17), ∀ a, k0_off1 d (word k) a + (SC k).size a ≤ S16384x2048.size a := by decide +kernel
theorem inb_st : ∀ (k : Fin 17), ∀ a, (![start k, 0] : Fin 2 → ℕ) a + (SC k).size a ≤ S8192x1024.size a := by decide +kernel
theorem inb_o1 : ∀ (d : Dev nD) (k : Fin 17), ∀ a, k0_off7 d (word k) a + (SC k).size a ≤ S32768x1024.size a := by decide +kernel
theorem inb_o2 : ∀ (d : Dev nD) (k : Fin 17), ∀ a, k0_off9 d (word k) a + (SC k).size a ≤ S32768x1024.size a := by decide +kernel
theorem inb_o3 : ∀ (d : Dev nD) (k : Fin 17), ∀ a, k0_off24 d (word k) a + (SC k).size a ≤ S32768x1024.size a := by decide +kernel
theorem inb_s17 : ∀ (k : Fin 17), ∀ a, (![k.val] : Fin 1 → ℕ) a + S1.size a ≤ S17.size a := by decide +kernel
theorem inb_s4 : ∀ (j : Fin 4), ∀ a, (![j.val] : Fin 1 → ℕ) a + S1.size a ≤ S4.size a := by decide +kernel
theorem inb_xl : ∀ (d : Dev nD) (l : Fin 16), ∀ a, (![1024 * l.val, k0_off3 d 1] : Fin 2 → ℕ) a + S1024x1024.size a ≤ S16384x2048.size a := by decide +kernel
theorem inb_ol : ∀ (d : Dev nD) (l : Fin 16), ∀ a, k0_off10 d (BitVec.ofNat 32 (1024 * l.val)) a + S1024x1024.size a ≤ S32768x1024.size a := by decide +kernel
theorem inb_lc : ∀ (j : Fin 4), ∀ a, (![j.val, 0, 0] : Fin 3 → ℕ) a + S1x1024x1024.size a ≤ S4x1024x1024.size a := by decide +kernel

/-! ## The buffers' pieces and the semaphores' cells, as the kernel spells them -/

/-- The rows of the argument staged as chunk `k`, at the columns the other column's device wants. -/
def xS (d : Dev nD) (k : Fin 17) : Memref sig .tc .hbm (SC k) .f32 :=
  (Memref.whole main_arg0).slice (Rect.unit (s := S16384x2048) (k0_off1 d (word k)) (SC k).size (inb_x d k)) (fun _ => rfl)
/-- The staging buffer's chunk `k`. -/
def stM (k : Fin 17) : Memref sig .tc .vmem (SC k) .f32 :=
  (Memref.whole cc0_scratch0).slice (Rect.unit (s := S8192x1024) ![start k, 0] (SC k).size (inb_st k)) (fun _ => rfl)
/-- Where chunk `k` of this device's rows belongs in the result of the other column's device. -/
def oA (d : Dev nD) (k : Fin 17) : Memref sig .tc .hbm (SC k) .f32 :=
  (Memref.whole main_v1).slice (Rect.unit (s := S32768x1024) (k0_off7 d (word k)) (SC k).size (inb_o1 d k)) (fun _ => rfl)
/-- Where this device receives chunk `k` from the other column's device. -/
def oB (d : Dev nD) (k : Fin 17) : Memref sig .tc .hbm (SC k) .f32 :=
  (Memref.whole main_v1).slice (Rect.unit (s := S32768x1024) (k0_off9 d (word k)) (SC k).size (inb_o2 d k)) (fun _ => rfl)
/-- Where this device receives chunk `k` passed on by the other row's device. -/
def oC (d : Dev nD) (k : Fin 17) : Memref sig .tc .hbm (SC k) .f32 :=
  (Memref.whole main_v1).slice (Rect.unit (s := S32768x1024) (k0_off24 d (word k)) (SC k).size (inb_o3 d k)) (fun _ => rfl)
/-- Chunk `l` of the rows this device keeps, in the argument. -/
def xL (d : Dev nD) (l : Fin 16) : Memref sig .tc .hbm S1024x1024 .f32 :=
  (Memref.whole main_arg0).slice (Rect.unit (s := S16384x2048) ![1024 * l.val, k0_off3 d 1] S1024x1024.size (inb_xl d l)) (fun _ => rfl)
/-- Chunk `l` of the rows this device keeps, in the result. -/
def oL (d : Dev nD) (l : Fin 16) : Memref sig .tc .hbm S1024x1024 .f32 :=
  (Memref.whole main_v1).slice (Rect.unit (s := S32768x1024) (k0_off10 d (BitVec.ofNat 32 (1024 * l.val))) S1024x1024.size (inb_ol d l)) (fun _ => rfl)
/-- Slot `j` of the four through which the kept rows pass. -/
def lcM (j : Fin 4) : Memref sig .tc .vmem S1024x1024 .f32 :=
  ((Memref.whole cc0_scratch1).slice (Rect.unit (s := S4x1024x1024) ![j.val, 0, 0] S1x1024x1024.size (inb_lc j)) (fun _ => rfl)).squeeze
    S1024x1024 squeezes_S1x1024x1024_S1024x1024

/-- Cell `k` of an array of seventeen, and cell `j` of an array of four. -/
def at17 (a : DmaSems sig S17) (k : Fin 17) : DmaSem sig :=
  ((a.slice (Rect.unit (s := S17) ![k.val] S1.size (inb_s17 k))).squeeze S_ squeezes_S1_S_).sem
def at4 (a : DmaSems sig S4) (j : Fin 4) : DmaSem sig :=
  ((a.slice (Rect.unit (s := S4) ![j.val] S1.size (inb_s4 j))).squeeze S_ squeezes_S1_S_).sem

/-- The slot of kept chunk `l`. -/
def slot (l : Fin 16) : Fin 4 := ⟨l.val % 4, Nat.mod_lt _ (by decide)⟩

abbrev barS : Sem sig := (SemArray.scalar (sig.barrier 0 rfl) : Sems sig S_).sem

/-! ## The operations -/

variable (F) in
/-- A memory operation of the kernel that returns nothing. -/
abbrev Op : Type := TpuEff nD τ sig (Elt F) Λ₀ .tc PUnit

def opStage (d : Dev nD) (k : Fin 17) : Op F :=
  .enqueueDma (xS d k) (.here (stM k)) (.dma (at17 cc0_scratch2 k)) (View.wordExact_bits rfl) (View.wordExact_bits rfl) ⟨Or.inl rfl, trivial⟩
def opRead (d : Dev nD) (l : Fin 16) : Op F :=
  .enqueueDma (xL d l) (.here (lcM (slot l))) (.dma (at4 cc0_scratch3 (slot l))) (View.wordExact_bits rfl)
    ((View.wordExact_bits rfl).reshape _ _) ⟨Or.inl rfl, trivial⟩
def opStaged (d : Dev nD) (k : Fin 17) : Op F :=
  .waitDma2 (at17 cc0_scratch2 k) (xS d k) (stM k) (View.wordExact_bits rfl) (View.wordExact_bits rfl)
def opSend1 (d : Dev nD) (k : Fin 17) : Op F :=
  .enqueueDma (stM k) (.remote (Dev.tc (⟨k0_dev3 d, k0_dev3_lt d⟩ : Dev nD)) (oA d k) (.dma (at17 cc0_scratch5 k)))
    (.dma (at17 cc0_scratch6 k)) (View.wordExact_bits rfl) (View.wordExact_bits rfl) ⟨⟨rfl, Or.inl rfl⟩, trivial⟩
def opRecv1 (d : Dev nD) (k : Fin 17) : Op F :=
  .waitDma2 (at17 cc0_scratch6 k) (stM k) (oB d k) (View.wordExact_bits rfl) (View.wordExact_bits rfl)
def opSend2 (d : Dev nD) (k : Fin 17) : Op F :=
  .enqueueDma (oB d k) (.remote (Dev.tc (⟨k0_dev20 d, k0_dev20_lt d⟩ : Dev nD)) (oB d k) (.dma (at17 cc0_scratch7 k)))
    (.dma (at17 cc0_scratch8 k)) (View.wordExact_bits rfl) (View.wordExact_bits rfl) ⟨⟨rfl, Or.inl rfl⟩, trivial⟩
def opReadDone (d : Dev nD) (l : Fin 16) : Op F :=
  .waitDma2 (at4 cc0_scratch3 (slot l)) (xL d l) (lcM (slot l)) (View.wordExact_bits rfl) ((View.wordExact_bits rfl).reshape _ _)
def opWrite (d : Dev nD) (l : Fin 16) : Op F :=
  .enqueueDma (lcM (slot l)) (.here (oL d l)) (.dma (at4 cc0_scratch4 (slot l))) ((View.wordExact_bits rfl).reshape _ _)
    (View.wordExact_bits rfl) ⟨Or.inl rfl, trivial⟩
def opWritten (d : Dev nD) (l : Fin 16) : Op F :=
  .waitDma2 (at4 cc0_scratch4 (slot l)) (lcM (slot l)) (oL d l) ((View.wordExact_bits rfl).reshape _ _) (View.wordExact_bits rfl)
def opSent1 (d : Dev nD) (k : Fin 17) : Op F :=
  .waitDma2 (at17 cc0_scratch5 k) (oA d k) (stM k) (View.wordExact_bits rfl) (View.wordExact_bits rfl)
def opRecv2 (d : Dev nD) (k : Fin 17) : Op F :=
  .waitDma2 (at17 cc0_scratch8 k) (oC d k) (oC d k) (View.wordExact_bits rfl) (View.wordExact_bits rfl)
def opSent2 (d : Dev nD) (k : Fin 17) : Op F :=
  .waitDma2 (at17 cc0_scratch7 k) (oB d k) (oB d k) (View.wordExact_bits rfl) (View.wordExact_bits rfl)
def opSignalY (d : Dev nD) : Op F := .semSignal ((⟨k0_dev1 d, k0_dev1_lt d⟩ : Dev nD), .tc) barS (1#32 : BitVec 32).toInt
def opSignalX (d : Dev nD) : Op F := .semSignal ((⟨k0_dev2 d, k0_dev2_lt d⟩ : Dev nD), .tc) barS (1#32 : BitVec 32).toInt
def opMet : Op F := .semWait barS (2#32 : BitVec 32).toInt

/-! ## Lists of operations, run in order -/

/-- The operations of a list in order, then `K`. -/
def seq : List (Op F) → Prog (TpuEff nD τ sig (Elt F) Λ₀ .tc) PUnit → Prog (TpuEff nD τ sig (Elt F) Λ₀ .tc) PUnit
  | [], K => K
  | w :: l, K => .op w fun _ => seq l K

/-- `f 0`, …, `f (n - 1)` one after another. -/
def loop : (n : ℕ) → (Fin n → List (Op F)) → List (Op F)
  | 0, _ => []
  | n + 1, f => f 0 ++ loop n fun i => f i.succ

/-- Kept chunk `l`'s step: its read awaited, its write started and — when a later chunk takes its slot — its write awaited
    and that chunk's read started. -/
def keepStep (d : Dev nD) (l : Fin 16) : List (Op F) :=
  [opReadDone d l, opWrite d l] ++ if h : l.val + 4 < 16 then [opWritten d l, opRead d ⟨l.val + 4, h⟩] else []

/-- What accompanies chunk `k`'s passing on: from the second chunk on, the step of the kept chunk before it. -/
def keepBefore (d : Dev nD) (k : Fin 17) : List (Op F) :=
  if h : 0 < k.val then keepStep d ⟨k.val - 1, by omega⟩ else []

def fillOps (d : Dev nD) : List (Op F) :=
  loop 17 (fun k => [opStage d k]) ++ loop 4 fun j => [opRead d ⟨j.val, by omega⟩]
def meetOps (d : Dev nD) : List (Op F) := [opSignalY d, opSignalX d, opMet]
def sendOps (d : Dev nD) : List (Op F) := loop 17 fun k => [opStaged d k, opSend1 d k]
def passOps (d : Dev nD) : List (Op F) := loop 17 fun k => [opRecv1 d k, opSend2 d k] ++ keepBefore d k
def drainOps (d : Dev nD) : List (Op F) :=
  loop 17 (fun k => [opSent1 d k]) ++ loop 4 (fun j => [opWritten d ⟨j.val + 12, by omega⟩])
def lastOps (d : Dev nD) : List (Op F) := loop 17 fun k => [opRecv2 d k, opSent2 d k]

/-- All of the body's operations but the first, which reads the device's number. -/
def bodyOps (d : Dev nD) : List (Op F) := fillOps d ++ (meetOps d ++ (sendOps d ++ (passOps d ++ (drainOps d ++ lastOps d))))

set_option maxRecDepth 100000 in
set_option maxHeartbeats 4000000 in
theorem body_eq (t : Fin cfg0.N) : bodyAt0 (F := F) t = .op .deviceId fun d => seq (bodyOps d) (pure ⟨⟩) := rfl

end Cert.Transpose
-- ==== Proof.Geometry.lean ====
/-
Where the pieces lie: the two partners of a device, the closed offsets of every piece, the way the pieces cut the
buffers up, and what each piece of the result must hold.
-/
module

public import proofs.«01_k».proof.Proof.Program
public import Idealize.ShloMosaic.Lib.Ring

@[expose] public section

noncomputable section

namespace Cert.Transpose

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

/-! ## Partners -/

/-- The device in the same row of the mesh and the other column. -/
def yp (d : Dev nD) : Dev nD := ⟨2 * (d.val / 2) + (1 - d.val % 2), by have := d.isLt; simp only [show nD = 4 from rfl] at *; omega⟩
/-- The device in the same column of the mesh and the other row. -/
def xn (d : Dev nD) : Dev nD := ⟨2 * (1 - d.val / 2) + d.val % 2, by have := d.isLt; simp only [show nD = 4 from rfl] at *; omega⟩

theorem yp_val (d : Dev nD) : (yp d).val = 2 * (d.val / 2) + (1 - d.val % 2) := rfl
theorem xn_val (d : Dev nD) : (xn d).val = 2 * (1 - d.val / 2) + d.val % 2 := rfl
theorem yp_yp (d : Dev nD) : yp (yp d) = d := by revert d; decide
theorem xn_xn (d : Dev nD) : xn (xn d) = d := by revert d; decide
theorem yp_ne_xn (d : Dev nD) : yp d ≠ xn d := by revert d; decide

def yEquiv : Dev nD ≃ Dev nD := ⟨yp, yp, yp_yp, yp_yp⟩
def xEquiv : Dev nD ≃ Dev nD := ⟨xn, xn, xn_xn, xn_xn⟩

theorem dev1_eq : ∀ d : Dev nD, (⟨k0_dev1 d, k0_dev1_lt d⟩ : Dev nD) = yp d := by decide +kernel
theorem dev2_eq : ∀ d : Dev nD, (⟨k0_dev2 d, k0_dev2_lt d⟩ : Dev nD) = xn d := by decide +kernel
theorem dev3_eq : ∀ d : Dev nD, (⟨k0_dev3 d, k0_dev3_lt d⟩ : Dev nD) = yp d := by decide +kernel
theorem dev20_eq : ∀ d : Dev nD, (⟨k0_dev20 d, k0_dev20_lt d⟩ : Dev nD) = xn d := by decide +kernel

/-! ## Offsets -/

theorem off_xS : ∀ (d : Dev nD) (k : Fin 17), k0_off1 d (word k) = ![8192 * (d.val / 2) + start k, 1024 - 1024 * (d.val % 2)] := by decide +kernel
theorem off_oB : ∀ (d : Dev nD) (k : Fin 17), k0_off9 d (word k) = ![16384 * (1 - d.val % 2) + 8192 * (d.val / 2) + start k, 0] := by decide +kernel
theorem off_oC : ∀ (d : Dev nD) (k : Fin 17), k0_off24 d (word k) = ![16384 * (1 - d.val % 2) + 8192 * (1 - d.val / 2) + start k, 0] := by decide +kernel
theorem off_oL : ∀ (d : Dev nD) (l : Fin 16), k0_off10 d (BitVec.ofNat 32 (1024 * l.val)) = ![16384 * (d.val % 2) + 1024 * l.val, 0] := by decide +kernel
theorem off_xL : ∀ d : Dev nD, k0_off3 d 1 = 1024 * (d.val % 2) := by decide +kernel
theorem off_oA_oB : ∀ (d : Dev nD) (k : Fin 17), k0_off7 d (word k) = k0_off9 (yp d) (word k) := by decide +kernel
theorem off_oB_oC : ∀ (d : Dev nD) (k : Fin 17), k0_off9 d (word k) = k0_off24 (xn d) (word k) := by decide +kernel

/-- Slices of one buffer at equal offsets are equal. -/
theorem slice_congr {b : Ref sig .tc} {off off' size : Fin b.ty.shape.rank → ℕ} (h : off = off') (hi : ∀ a, off a + size a ≤ b.ty.shape.size a)
    (hi' : ∀ a, off' a + size a ≤ b.ty.shape.size a) :
    (Memref.whole b).slice (Rect.unit off size hi) (fun _ => rfl) = (Memref.whole b).slice (Rect.unit off' size hi') (fun _ => rfl) := by
  subst h; rfl

/-- A device's chunk goes where its column partner receives it, -/
theorem oA_eq (d : Dev nD) (k : Fin 17) : oA d k = oB (yp d) k := slice_congr (b := main_v1) (off_oA_oB d k) _ _
/-- and what it passes on lies on its row partner where that one receives it. -/
theorem oB_eq (d : Dev nD) (k : Fin 17) : oB d k = oC (xn d) k := slice_congr (b := main_v1) (off_oB_oC d k) _ _

/-! ## Which entries a piece has -/

/-- The entries of a piece, at the index type of its buffer: of the argument a staged chunk and a kept one, -/
def sX (d : Dev nD) (k : Fin 17) : Finset S16384x2048.Idx := (xS d k).view.set
def sL (d : Dev nD) (l : Fin 16) : Finset S16384x2048.Idx := (xL d l).view.set
/-- of the result what is received first, second, and what is kept, -/
def sB (d : Dev nD) (k : Fin 17) : Finset S32768x1024.Idx := (oB d k).view.set
def sC (d : Dev nD) (k : Fin 17) : Finset S32768x1024.Idx := (oC d k).view.set
def sO (d : Dev nD) (l : Fin 16) : Finset S32768x1024.Idx := (oL d l).view.set
/-- of the staging buffer a chunk, and of the four slots one. -/
def sS (k : Fin 17) : Finset S8192x1024.Idx := (stM k).view.set
def sT (j : Fin 4) : Finset S4x1024x1024.Idx := (lcM j).view.set

/-- Where entry `j` of a piece lies in its buffer. -/
def eX (d : Dev nD) (k : Fin 17) (j : (SC k).Idx) : S16384x2048.Idx := (xS d k).view.emb j
def eL (d : Dev nD) (l : Fin 16) (j : S1024x1024.Idx) : S16384x2048.Idx := (xL d l).view.emb j
def eB (d : Dev nD) (k : Fin 17) (j : (SC k).Idx) : S32768x1024.Idx := (oB d k).view.emb j
def eO (d : Dev nD) (l : Fin 16) (j : S1024x1024.Idx) : S32768x1024.Idx := (oL d l).view.emb j

/-- A slice of a whole buffer has the entries inside its bounds. -/
theorem mem_slice {b : Ref sig .tc} {off size : Fin b.ty.shape.rank → ℕ} {hi : ∀ a, off a + size a ≤ b.ty.shape.size a} {i : b.ty.shape.Idx} :
    i ∈ ((Memref.whole b).slice (Rect.unit off size hi) (fun _ => rfl)).view.set ↔ ∀ a, off a ≤ (i a : ℕ) ∧ (i a : ℕ) < off a + size a := by
  show i ∈ ((View.whole b).slice (Rect.unit off size hi)).set ↔ _
  rw [View.set_slice_whole]; exact Rect.mem_set_unit

/-- Entry `j` of a slice is the buffer's at `j` moved by the offset. -/
theorem emb_slice_val {b : Ref sig .tc} {off size : Fin b.ty.shape.rank → ℕ} {hi : ∀ a, off a + size a ≤ b.ty.shape.size a}
    (j : (⟨b.ty.shape.rank, size⟩ : Shape).Idx) (a : Fin b.ty.shape.rank) :
    ((((Memref.whole b).slice (Rect.unit off size hi) (fun _ => rfl)).view.emb j : b.ty.shape.Idx) a : ℕ) = off a + (j a : ℕ) := by
  show (((Rect.unit off size hi).emb j) a : ℕ) = _
  rw [Rect.emb_apply]; simp

theorem forall_fin2 {p : Fin 2 → Prop} : (∀ a, p a) ↔ p 0 ∧ p 1 := Fin.forall_fin_two

theorem mem_xS {d : Dev nD} {k : Fin 17} {i : S16384x2048.Idx} :
    i ∈ sX d k ↔ (8192 * (d.val / 2) + start k ≤ (i 0 : ℕ) ∧ (i 0 : ℕ) < 8192 * (d.val / 2) + start k + rows k)
      ∧ 1024 - 1024 * (d.val % 2) ≤ (i 1 : ℕ) ∧ (i 1 : ℕ) < 1024 - 1024 * (d.val % 2) + 1024 := by
  refine (mem_slice (b := main_arg0)).trans ?_
  rw [off_xS]; exact forall_fin2

theorem mem_xL {d : Dev nD} {l : Fin 16} {i : S16384x2048.Idx} :
    i ∈ sL d l ↔ (1024 * l.val ≤ (i 0 : ℕ) ∧ (i 0 : ℕ) < 1024 * l.val + 1024)
      ∧ 1024 * (d.val % 2) ≤ (i 1 : ℕ) ∧ (i 1 : ℕ) < 1024 * (d.val % 2) + 1024 := by
  refine (mem_slice (b := main_arg0)).trans ?_
  rw [off_xL]; exact forall_fin2

theorem mem_stM {k : Fin 17} {i : S8192x1024.Idx} : i ∈ sS k ↔ start k ≤ (i 0 : ℕ) ∧ (i 0 : ℕ) < start k + rows k := by
  refine (mem_slice (b := cc0_scratch0)).trans (forall_fin2.trans ⟨fun h => h.1, fun h => ⟨h, Nat.zero_le _, ?_⟩⟩)
  have : (i 1 : ℕ) < 1024 := (i 1).isLt
  show (i 1 : ℕ) < 0 + 1024
  omega

/-- Of a slice of the result at full width, the rows decide. -/
theorem full_width {i : S32768x1024.Idx} {o n : ℕ} :
    (∀ a : Fin 2, (![o, 0] : Fin 2 → ℕ) a ≤ (i a : ℕ) ∧ (i a : ℕ) < (![o, 0] : Fin 2 → ℕ) a + (![n, 1024] : Fin 2 → ℕ) a) ↔ o ≤ (i 0 : ℕ) ∧ (i 0 : ℕ) < o + n := by
  refine forall_fin2.trans ⟨fun h => h.1, fun h => ⟨h, Nat.zero_le _, ?_⟩⟩
  have : (i 1 : ℕ) < 1024 := (i 1).isLt
  show (i 1 : ℕ) < 0 + 1024
  omega

theorem mem_oB {d : Dev nD} {k : Fin 17} {i : S32768x1024.Idx} :
    i ∈ sB d k ↔ 16384 * (1 - d.val % 2) + 8192 * (d.val / 2) + start k ≤ (i 0 : ℕ)
      ∧ (i 0 : ℕ) < 16384 * (1 - d.val % 2) + 8192 * (d.val / 2) + start k + rows k := by
  refine (mem_slice (b := main_v1)).trans ?_
  rw [off_oB]; exact full_width

theorem mem_oC {d : Dev nD} {k : Fin 17} {i : S32768x1024.Idx} :
    i ∈ sC d k ↔ 16384 * (1 - d.val % 2) + 8192 * (1 - d.val / 2) + start k ≤ (i 0 : ℕ)
      ∧ (i 0 : ℕ) < 16384 * (1 - d.val % 2) + 8192 * (1 - d.val / 2) + start k + rows k := by
  refine (mem_slice (b := main_v1)).trans ?_
  rw [off_oC]; exact full_width

theorem mem_oL {d : Dev nD} {l : Fin 16} {i : S32768x1024.Idx} :
    i ∈ sO d l ↔ 16384 * (d.val % 2) + 1024 * l.val ≤ (i 0 : ℕ) ∧ (i 0 : ℕ) < 16384 * (d.val % 2) + 1024 * l.val + 1024 := by
  refine (mem_slice (b := main_v1)).trans ?_
  rw [off_oL]; exact full_width

theorem mem_lcM {j : Fin 4} {i : S4x1024x1024.Idx} : i ∈ sT j ↔ (i 0 : ℕ) = j.val := by
  have e : sT j = (Rect.unit (s := S4x1024x1024) ![j.val, 0, 0] S1x1024x1024.size (inb_lc j)).set :=
    (View.set_reshape ((View.whole cc0_scratch1).slice (Rect.unit (s := S4x1024x1024) ![j.val, 0, 0] S1x1024x1024.size (inb_lc j))) _).trans
      (View.set_slice_whole cc0_scratch1 _)
  rw [e]
  refine (Rect.mem_set_unit (s := S4x1024x1024)).trans ⟨fun h => ?_, fun h a => ?_⟩
  · have := h 0
    have h1 : j.val ≤ (i 0 : ℕ) := this.1
    have h2 : (i 0 : ℕ) < j.val + 1 := this.2
    omega
  · have h1 : (i 1 : ℕ) < 1024 := (i 1).isLt
    have h2 : (i 2 : ℕ) < 1024 := (i 2).isLt
    fin_cases a
    · show j.val ≤ (i 0 : ℕ) ∧ (i 0 : ℕ) < j.val + 1
      omega
    · show 0 ≤ (i 1 : ℕ) ∧ (i 1 : ℕ) < 0 + 1024
      omega
    · show 0 ≤ (i 2 : ℕ) ∧ (i 2 : ℕ) < 0 + 1024
      omega

/-! ## The pieces cut the buffers up -/

/-- No row is in two chunks, -/
theorem chunk_unique {k k' : Fin 17} {r : ℕ} (h : start k ≤ r) (h2 : r < start k + rows k) (h' : start k' ≤ r) (h2' : r < start k' + rows k') : k = k' := by
  apply Fin.ext
  have := k.isLt
  have := k'.isLt
  unfold start rows at *
  split_ifs at * <;> omega

/-- and every row of a half is in one. -/
theorem chunk_exists {r : ℕ} (h : r < 8192) : ∃ k : Fin 17, start k ≤ r ∧ r < start k + rows k := by
  by_cases h1 : r < 7680
  · refine ⟨⟨r / 512, by omega⟩, ?_⟩
    unfold start rows
    dsimp only
    split_ifs <;> omega
  · by_cases h2 : r < 7936
    · exact ⟨15, by show 7680 ≤ r; omega, by show r < 7680 + 256; omega⟩
    · exact ⟨16, by show 7936 ≤ r; omega, by show r < 7936 + 256; omega⟩

theorem chunk_le (k : Fin 17) : start k + rows k ≤ 8192 := by
  have := k.isLt
  unfold start rows
  split_ifs <;> omega

/-- The result's pieces: what is received first, what is received second, what is kept. -/
abbrev OutIx : Type := Fin 17 ⊕ Fin 17 ⊕ Fin 16
def outSet (d : Dev nD) : OutIx → Finset S32768x1024.Idx
  | .inl k => sB d k
  | .inr (.inl k) => sC d k
  | .inr (.inr l) => sO d l

/-- The argument's pieces: what is staged, what is kept. -/
abbrev ArgIx : Type := Fin 17 ⊕ Fin 16
def argSet (d : Dev nD) : ArgIx → Finset S16384x2048.Idx
  | .inl k => sX d k
  | .inr l => sL d l

theorem outSet_disjoint (d : Dev nD) (a b : OutIx) (h : a ≠ b) : Disjoint (outSet d a) (outSet d b) := by
  rw [Finset.disjoint_left]
  intro i ha hb
  have hd : d.val < 4 := d.isLt
  apply h
  rcases a with k | k | l <;> rcases b with k' | k' | l' <;> simp only [outSet, mem_oB, mem_oC, mem_oL] at ha hb
  · rw [chunk_unique (k := k) (k' := k') (r := (i 0 : ℕ) - (16384 * (1 - d.val % 2) + 8192 * (d.val / 2)))] <;> omega
  · have := chunk_le k; have := chunk_le k'; omega
  · have := chunk_le k; have := l'.isLt; omega
  · have := chunk_le k; have := chunk_le k'; omega
  · rw [chunk_unique (k := k) (k' := k') (r := (i 0 : ℕ) - (16384 * (1 - d.val % 2) + 8192 * (1 - d.val / 2)))] <;> omega
  · have := chunk_le k; have := l'.isLt; omega
  · have := chunk_le k'; have := l.isLt; omega
  · have := chunk_le k'; have := l.isLt; omega
  · rw [show l = l' from Fin.ext (by omega)]

theorem outSet_cover (d : Dev nD) : Finset.univ.biUnion (outSet d) = Finset.univ := by
  rw [Finset.eq_univ_iff_forall]
  intro i
  rw [Finset.mem_biUnion]
  have hd : d.val < 4 := d.isLt
  have hi : (i 0 : ℕ) < 32768 := (i 0).isLt
  by_cases h1 : (i 0 : ℕ) / 16384 = d.val % 2
  · exact ⟨.inr (.inr ⟨((i 0 : ℕ) % 16384) / 1024, by omega⟩), Finset.mem_univ _, mem_oL.mpr (by dsimp only; omega)⟩
  · obtain ⟨k, hk⟩ := chunk_exists (r := (i 0 : ℕ) % 8192) (by omega)
    by_cases h2 : ((i 0 : ℕ) % 16384) / 8192 = d.val / 2
    · exact ⟨.inl k, Finset.mem_univ _, mem_oB.mpr (by omega)⟩
    · exact ⟨.inr (.inl k), Finset.mem_univ _, mem_oC.mpr (by omega)⟩

theorem argSet_disjoint (d : Dev nD) (a b : ArgIx) (h : a ≠ b) : Disjoint (argSet d a) (argSet d b) := by
  rw [Finset.disjoint_left]
  intro i ha hb
  have hd : d.val < 4 := d.isLt
  apply h
  rcases a with k | l <;> rcases b with k' | l' <;> simp only [argSet, mem_xS, mem_xL] at ha hb
  · rw [chunk_unique (k := k) (k' := k') (r := (i 0 : ℕ) - 8192 * (d.val / 2))] <;> omega
  · omega
  · omega
  · rw [show l = l' from Fin.ext (by omega)]

theorem stSet_disjoint (k k' : Fin 17) (h : k ≠ k') : Disjoint (sS k) (sS k') := by
  rw [Finset.disjoint_left]
  intro i hk hk'
  obtain ⟨h1, h2⟩ := mem_stM.mp hk
  obtain ⟨h1', h2'⟩ := mem_stM.mp hk'
  exact h (chunk_unique h1 h2 h1' h2')

theorem stSet_cover : Finset.univ.biUnion (fun k : Fin 17 => sS k) = Finset.univ := by
  rw [Finset.eq_univ_iff_forall]
  intro i
  obtain ⟨k, hk⟩ := chunk_exists (r := (i 0 : ℕ)) (i 0).isLt
  exact Finset.mem_biUnion.mpr ⟨k, Finset.mem_univ _, mem_stM.mpr hk⟩

theorem lcSet_disjoint (j j' : Fin 4) (h : j ≠ j') : Disjoint (sT j) (sT j') := by
  rw [Finset.disjoint_left]
  intro i hj hj'
  exact h (Fin.ext ((mem_lcM.mp hj).symm.trans (mem_lcM.mp hj')))

theorem lcSet_cover : Finset.univ.biUnion (fun j : Fin 4 => sT j) = Finset.univ := by
  rw [Finset.eq_univ_iff_forall]
  intro i
  exact Finset.mem_biUnion.mpr ⟨(i 0 : Fin 4), Finset.mem_univ _, mem_lcM.mpr rfl⟩

/-! ## What the result holds -/

/-- The entry of a device's argument in row `r` and column `q`. -/
def ix (r q : ℕ) (hr : r < 16384) (hq : q < 2048) : S16384x2048.Idx := fun a => match a with
  | 0 => ⟨r, hr⟩
  | 1 => ⟨q, hq⟩

/-- The device whose argument row `r` of `d`'s result comes from: `d` itself for the rows its column holds, otherwise the
    device of the other column that takes the half `r` lies in. -/
def src (d : Dev nD) (r : ℕ) (hr : r < 32768) : Dev nD :=
  if r / 16384 = d.val % 2 then d
  else ⟨2 * ((r % 16384) / 8192) + (1 - d.val % 2), by show _ < 4; omega⟩

/-- The result of device `d`: the columns its place in the mesh names, of all rows. -/
def outAt (X : Dev nD → S16384x2048.Idx → Elt F .f32) (d : Dev nD) : S32768x1024.Idx → Elt F .f32 := fun i =>
  X (src d (i 0).val (i 0).isLt) (ix ((i 0).val % 16384) (1024 * (d.val % 2) + (i 1).val) (Nat.mod_lt _ (by decide))
    (by have : (i 1).val < 1024 := (i 1).isLt; omega))

theorem outAt_eq (X : Dev nD → S16384x2048.Idx → Elt F .f32) {d e : Dev nD} {i : S32768x1024.Idx} {x : S16384x2048.Idx}
    (hs : src d (i 0).val (i 0).isLt = e) (h0 : (i 0).val % 16384 = (x 0).val) (h1 : 1024 * (d.val % 2) + (i 1).val = (x 1).val) :
    outAt X d i = X e x := by
  unfold outAt
  rw [hs]
  refine congrArg (X e) (funext fun a => ?_)
  fin_cases a
  · exact Fin.ext h0
  · exact Fin.ext h1

/-- A staged chunk is what the column partner's result must hold there, -/
theorem outAt_first (X : Dev nD → S16384x2048.Idx → Elt F .f32) (d : Dev nD) (k : Fin 17) (j : (SC k).Idx) :
    outAt X (yp d) (eB (yp d) k j) = X d (eX d k j) := by
  have e0 : ((eB (yp d) k j) 0).val = k0_off9 (yp d) (word k) 0 + (j 0).val := emb_slice_val (b := main_v1) j 0
  have e1 : ((eB (yp d) k j) 1).val = k0_off9 (yp d) (word k) 1 + (j 1).val := emb_slice_val (b := main_v1) j 1
  have f0 : ((eX d k j) 0).val = k0_off1 d (word k) 0 + (j 0).val := emb_slice_val (b := main_arg0) j 0
  have f1 : ((eX d k j) 1).val = k0_off1 d (word k) 1 + (j 1).val := emb_slice_val (b := main_arg0) j 1
  rw [off_oB] at e0 e1
  rw [off_xS] at f0 f1
  simp only [Matrix.cons_val_zero, Matrix.cons_val_one] at e0 e1 f0 f1
  have hy := yp_val d
  have hd : d.val < 4 := d.isLt
  have hj : (j 0).val < rows k := (j 0).isLt
  have hk := chunk_le k
  refine outAt_eq X ?_ ?_ ?_
  · unfold src
    rw [if_neg (by omega)]
    exact Fin.ext (by dsimp only; omega)
  · omega
  · omega

/-- the row partner's result holds the same there, -/
theorem outAt_second (X : Dev nD → S16384x2048.Idx → Elt F .f32) (d : Dev nD) (k : Fin 17) (j : (SC k).Idx) :
    outAt X (xn d) (eB d k j) = outAt X d (eB d k j) := by
  have e0 : ((eB d k j) 0).val = k0_off9 d (word k) 0 + (j 0).val := emb_slice_val (b := main_v1) j 0
  rw [off_oB] at e0
  simp only [Matrix.cons_val_zero] at e0
  have hx := xn_val d
  have hx2 : (xn d).val % 2 = d.val % 2 := by omega
  have hd : d.val < 4 := d.isLt
  have hj : (j 0).val < rows k := (j 0).isLt
  have hk := chunk_le k
  refine outAt_eq X ?_ ?_ ?_
  · unfold src
    rw [if_neg (by omega), if_neg (by omega)]
    exact Fin.ext (by dsimp only; rw [hx2])
  · rfl
  · show _ = 1024 * (d.val % 2) + _
    omega

/-- and a kept chunk is what the device's own result must hold. -/
theorem outAt_kept (X : Dev nD → S16384x2048.Idx → Elt F .f32) (d : Dev nD) (l : Fin 16) (j : S1024x1024.Idx) :
    outAt X d (eO d l j) = X d (eL d l j) := by
  have e0 : ((eO d l j) 0).val = k0_off10 d (BitVec.ofNat 32 (1024 * l.val)) 0 + (j 0).val := emb_slice_val (b := main_v1) j 0
  have e1 : ((eO d l j) 1).val = k0_off10 d (BitVec.ofNat 32 (1024 * l.val)) 1 + (j 1).val := emb_slice_val (b := main_v1) j 1
  have f0 : ((eL d l j) 0).val = 1024 * l.val + (j 0).val := emb_slice_val (b := main_arg0) j 0
  have f1 : ((eL d l j) 1).val = k0_off3 d 1 + (j 1).val := emb_slice_val (b := main_arg0) j 1
  rw [off_oL] at e0 e1
  rw [off_xL] at f1
  simp only [Matrix.cons_val_zero, Matrix.cons_val_one] at e0 e1
  have hd : d.val < 4 := d.isLt
  have hj : (j 0).val < 1024 := (j 0).isLt
  have hl := l.isLt
  refine outAt_eq X ?_ ?_ ?_
  · unfold src
    rw [if_pos (by rw [e0]; omega)]
  · rw [e0, f0]; omega
  · rw [e1, f1]; omega

end Cert.Transpose
-- ==== Proof.Protocol.lean ====
/-
The protocol by which the devices hand each other pieces of the result: which semaphore cell carries what, who pays it,
what each device owes at launch, and in which order the cells may be waited for.
-/
module

public import proofs.«01_k».proof.Proof.Geometry
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Rounds.Family
public import Idealize.ShloMosaic.Lib.Tactic

@[expose] public section

noncomputable section

namespace Cert.Transpose

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

/-! ## The ghost state: the pipeline's copy of the rounds, the exchange's own, and counters for local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds sit in the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## Buffers and cells -/

abbrev aLoc (c : Dev nD) : Loc nD τ sig := (c : Thread nD τ).loc main_arg0
abbrev oLoc (c : Dev nD) : Loc nD τ sig := (c : Thread nD τ).loc main_v1
abbrev sLoc (c : Dev nD) : Loc nD τ sig := (c : Thread nD τ).loc cc0_scratch0
abbrev tLoc (c : Dev nD) : Loc nD τ sig := (c : Thread nD τ).loc cc0_scratch1

/-- The cell arrays of the two exchanges: sent first, received first, sent second, received second. -/
def arr (a : Fin 4) : DmaSems sig S17 := match a with
  | 0 => cc0_scratch5
  | 1 => cc0_scratch6
  | 2 => cc0_scratch7
  | 3 => cc0_scratch8

abbrev barCell (c : Dev nD) : GSem nD τ sig := ((c : Thread nD τ), .reg barS)
abbrev xsem (a : Fin 4) (k : Fin 17) : SemLoc sig := .dma (at17 (arr a) k)
abbrev xcell (a : Fin 4) (c : Dev nD) (k : Fin 17) : GSem nD τ sig := ((c : Thread nD τ), xsem a k)

/-- Which exchange cell a DMA semaphore is, if it is one. -/
def kindOf (s : DmaSem sig) : Option (Fin 4 × Fin 17) :=
  if h : 25 ≤ s.val ∧ s.val < 93 then some (⟨(s.val - 25) / 17, by omega⟩, ⟨(s.val - 25) % 17, by omega⟩) else none

theorem kindOf_x : ∀ (a : Fin 4) (k : Fin 17), kindOf (at17 (arr a) k) = some (a, k) := by decide +kernel
theorem kindOf_stage : ∀ k : Fin 17, kindOf (at17 cc0_scratch2 k) = none := by decide +kernel
theorem kindOf_read : ∀ j : Fin 4, kindOf (at4 cc0_scratch3 j) = none := by decide +kernel
theorem kindOf_write : ∀ j : Fin 4, kindOf (at4 cc0_scratch4 j) = none := by decide +kernel

theorem xsem_inj {a a' : Fin 4} {k k' : Fin 17} (h : xsem a k = xsem a' k') : a = a' ∧ k = k' := by
  have := (kindOf_x a k).symm.trans ((congrArg kindOf (SemLoc.dma.inj h)).trans (kindOf_x a' k'))
  exact ⟨congrArg Prod.fst (Option.some.inj this), congrArg Prod.snd (Option.some.inj this)⟩

theorem xcell_inj {a a' : Fin 4} {c c' : Dev nD} {k k' : Fin 17} (h : xcell a c k = xcell a' c' k') : a = a' ∧ c = c' ∧ k = k' :=
  have hs := xsem_inj (congrArg Prod.snd h)
  ⟨hs.1, congrArg (fun g : GSem nD τ sig => g.1.1) h, hs.2⟩

theorem xcell_ne_bar (a : Fin 4) (c c' : Dev nD) (k : Fin 17) : xcell a c k ≠ barCell c' := fun h => by cases congrArg Prod.snd h

/-- What one copy of chunk `k` credits. -/
def NC (k : Fin 17) : ℕ := (stM k).view.dmaCredit
theorem NC_pos (k : Fin 17) : 0 < NC k := View.dmaCredit_pos _ (by revert k; decide +kernel)
/-- What one copy of a kept chunk credits. -/
def NK : ℕ := (lcM 0).view.dmaCredit
theorem NK_pos : 0 < NK := View.dmaCredit_pos _ (by decide +kernel)

/-! ## The schedule -/

section Sched
variable (X : Dev nD → S16384x2048.Idx → Elt F .f32)

/-- What a transfer's cell hands over: the sender's cells its source back, the receiver's the piece of the result. -/
def xpay (a : Fin 4) (k : Fin 17) (c : Dev nD) : sProp 𝕄 := match a with
  | 0 => iprop(∃ f, sLoc c ↦[sS k]{fullShare} f)
  | 1 => iprop(oLoc c ↦[sB c k]{fullShare} outAt X c)
  | 2 => iprop(oLoc c ↦[sB c k]{fullShare} outAt X c)
  | 3 => iprop(oLoc c ↦[sC c k]{fullShare} outAt X c)

/-- The places the column partner gives `c` to write: where it receives first; -/
def yPlaces (c : Dev nD) : sProp 𝕄 := bigSep Finset.univ fun k : Fin 17 => iprop(∃ f, oLoc c ↦[sB c k]{fullShare} f)
/-- those the row partner gives: where it receives second. -/
def xPlaces (c : Dev nD) : sProp 𝕄 := bigSep Finset.univ fun k : Fin 17 => iprop(∃ f, oLoc c ↦[sC c k]{fullShare} f)

instance xpay_storable (a : Fin 4) (k : Fin 17) (c : Dev nD) : BI.Storable (upEmb : UEmb _ 𝕄) (xpay X a k c) := by
  unfold xpay; split <;> infer_instance
omit [FloatOps F] in
instance yPlaces_storable (c : Dev nD) : BI.Storable (upEmb : UEmb _ 𝕄) (yPlaces (F := F) c) := by unfold yPlaces; infer_instance
omit [FloatOps F] in
instance xPlaces_storable (c : Dev nD) : BI.Storable (upEmb : UEmb _ 𝕄) (xPlaces (F := F) c) := by unfold xPlaces; infer_instance

/-- One round. A barrier cell has two unit duties, `false` paid by the column partner and `true` by the row partner; an
    exchange cell has the duty `false` of its chunk's credit. -/
def Rd : Rounds.Schedule (GSem nD τ sig) Bool 𝕄 where
  duties g r := if r = 0 ∧ g.1.2 = .tc then (match g.2 with
      | .reg _ => Finset.univ
      | .dma s => match kindOf s with | some _ => {false} | none => ∅) else ∅
  unitless _ := False
  amount g _ _ := match g.2 with
    | .reg _ => 1
    | .dma s => match kindOf s with | some p => NC p.2 | none => 1
  payload g _ d := match g.2 with
    | .reg _ => if d then xPlaces (xn g.1.1) else yPlaces (yp g.1.1)
    | .dma s => match kindOf s with | some p => xpay X p.1 p.2 g.1.1 | none => iprop(emp)
  amount_pos g _ _ _ := by
    split
    · exact Nat.one_pos
    · split
      · exact NC_pos _
      · exact Nat.one_pos

instance Rd_payload_storable (g : GSem nD τ sig) (r : ℕ) (d : Bool) : BI.Storable (upEmb : UEmb _ 𝕄) ((Rd X).payload g r d) := by
  show BI.Storable upEmb (match g.2 with
    | .reg _ => if d then xPlaces (xn g.1.1) else yPlaces (yp g.1.1)
    | .dma s => match kindOf s with | some p => xpay X p.1 p.2 g.1.1 | none => iprop(emp))
  (repeat' split) <;> infer_instance

variable (c : Dev nD) (a : Fin 4) (k : Fin 17)

theorem duties_bar : (Rd X).duties (barCell c) 0 = Finset.univ := by dsimp only [Rd]; rw [if_pos ⟨rfl, rfl⟩]
theorem duties_x : (Rd X).duties (xcell a c k) 0 = {false} := by dsimp only [Rd]; rw [if_pos ⟨rfl, rfl⟩, kindOf_x]
theorem duties_later (g : GSem nD τ sig) : ∀ r, 1 ≤ r → (Rd X).duties g r = ∅ :=
  fun r hr => by dsimp only [Rd]; rw [if_neg fun h => by omega]
theorem amount_bar (d : Bool) : (Rd X).amount (barCell c) 0 d = 1 := rfl
theorem amount_x (d : Bool) : (Rd X).amount (xcell a c k) 0 d = NC k := by dsimp only [Rd]; rw [kindOf_x]
theorem payload_bar_true : (Rd X).payload (barCell c) 0 true = xPlaces (xn c) := rfl
theorem payload_bar_false : (Rd X).payload (barCell c) 0 false = yPlaces (yp c) := rfl
theorem payload_x (d : Bool) : (Rd X).payload (xcell a c k) 0 d = xpay X a k c := by dsimp only [Rd]; rw [kindOf_x]

theorem expect_bar : (Rd X).expect (barCell c) 0 = 2 := by
  unfold Schedule.expect Schedule.amountOf
  rw [duties_bar, Finset.sum_congr rfl fun d _ => amount_bar X c d, Finset.sum_const, Finset.card_univ, Fintype.card_bool, smul_eq_mul]
theorem expect_x : (Rd X).expect (xcell a c k) 0 = NC k := by
  unfold Schedule.expect Schedule.amountOf; rw [duties_x, Finset.sum_singleton, amount_x]

/-- All a barrier cell hands over: both partners' places; -/
theorem rest_bar : bigSep ((Rd X).duties (barCell c) 0 \ ∅) (fun d => (Rd X).payload (barCell c) 0 d) = iprop(yPlaces (yp c) ∗ xPlaces (xn c)) := by
  rw [Finset.sdiff_empty, duties_bar, bigSep_univ_eq_bigSepL [false, true] (by decide) (by decide), bigSepL_cons_cons, bigSepL_singleton,
    payload_bar_false, payload_bar_true]
  rfl
/-- all an exchange cell does. -/
theorem rest_x : bigSep ((Rd X).duties (xcell a c k) 0 \ ∅) (fun d => (Rd X).payload (xcell a c k) 0 d) = xpay X a k c := by
  rw [Finset.sdiff_empty, duties_x, bigSep_singleton, payload_x]

end Sched

/-! ## What a device owes, and the order of the cells -/

/-- The credit of chunks `n`, …, 16 on `e`'s cells of kind `a`. -/
def owe (a : Fin 4) (e : Dev nD) (n : ℕ) : CellTallies nD τ sig Unit := ∑ k ∈ rangeSet 17 n 17, tallyAt (xcell a e k) () (NC k)

theorem owe_head (a : Fin 4) (e : Dev nD) (k : Fin 17) : owe a e k.val = owe a e (k.val + 1) + tallyAt (xcell a e k) () (NC k) := by
  unfold owe
  rw [rangeSet_head k.isLt k.isLt, Finset.sum_insert (head_not_mem_rangeSet k.isLt), add_comm]

theorem owe_end (a : Fin 4) (e : Dev nD) : owe a e 17 = 0 := by
  unfold owe; rw [rangeSet_empty le_rfl, Finset.sum_empty]

theorem owe_apply (a : Fin 4) (e : Dev nD) (n : ℕ) (g : GSem nD τ sig) (u : Unit) :
    owe a e n g u = ∑ k ∈ rangeSet 17 n 17, tallyAt (xcell a e k) () (NC k) g u := by
  unfold owe; rw [Finset.sum_apply, Finsupp.finset_sum_apply]

theorem owe_pos {a : Fin 4} {e : Dev nD} {n : ℕ} {g : GSem nD τ sig} {u : Unit} (h : 0 < owe a e n g u) : ∃ k, g = xcell a e k := by
  rw [owe_apply] at h
  by_contra hn
  rw [Finset.sum_eq_zero fun k _ => by rw [tallyAt_apply, if_neg fun h' => hn ⟨k, h'.1⟩]] at h
  exact Nat.lt_irrefl 0 h

/-- At launch: what it will send first and second, and one unit to each partner's barrier cell. -/
def O₂ (c : Dev nD) : CellTallies nD τ sig Unit := owe 3 (xn c) 0 + owe 1 (yp c) 0
def O₁ (c : Dev nD) : CellTallies nD τ sig Unit := O₂ c + tallyAt (barCell (xn c)) () 1
def O₀ (c : Dev nD) : CellTallies nD τ sig Unit := O₁ c + tallyAt (barCell (yp c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Local copies and sent cells first, then the barrier, then what is received first, then what is received second. -/
def lv (g : GSem nD τ sig) (_ : Unit) : ℕ := match g.2 with
  | .reg _ => 1
  | .dma s => match kindOf s with
    | some p => if p.1 = 1 then 2 else if p.1 = 3 then 3 else 0
    | none => 0

theorem lv_bar (c : Dev nD) : lv (barCell c) () = 1 := rfl
theorem lv_x (a : Fin 4) (c : Dev nD) (k : Fin 17) : lv (xcell a c k) () = if a = 1 then 2 else if a = 3 then 3 else 0 := by
  dsimp only [lv]; rw [kindOf_x]
theorem lv_local {c : Dev nD} {s : DmaSem sig} (h : kindOf s = none) : lv ((c : Thread nD τ), .dma s) () = 0 := by
  dsimp only [lv]; rw [h]

/-- All of `O` is owed to cells above `b`. -/
def Above (b : ℕ) (O : CellTallies nD τ sig Unit) : Prop := ∀ (g : GSem nD τ sig) (u : Unit), 0 < O g u → g.1.2 = .tc ∧ b < lv g u

theorem above_owe {a : Fin 4} {b : ℕ} (h : b < if a = 1 then 2 else if a = 3 then 3 else 0) (e : Dev nD) (n : ℕ) : Above b (owe a e n) := by
  intro g u hg
  obtain ⟨k, rfl⟩ := owe_pos hg
  exact ⟨rfl, by cases u; rw [lv_x]; exact h⟩

theorem above_add {b : ℕ} {O O' : CellTallies nD τ sig Unit} (h : Above b O) (h' : Above b O') : Above b (O + O') := by
  intro g u hg
  rw [Pi.add_apply, Finsupp.add_apply] at hg
  rcases Nat.eq_zero_or_pos (O g u) with h0 | h0
  · exact h' g u (by omega)
  · exact h g u h0

theorem above_zero (b : ℕ) : Above b 0 := fun g u h => absurd h (Nat.lt_irrefl 0)

omit [FloatOps F] in
/-- A cell may be waited for while everything owed is owed to cells above it. -/
theorem mayWait {c : Dev nD} {sm : SemLoc sig} {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by cases u; unfold L; rw [if_pos (h g () hg).1]; exact Finset.mem_singleton_self _)
    (fun p hp => by rw [Finset.mem_singleton.mp hp])
    (fun g u hg => (h g u hg).2)

end Cert.Transpose
-- ==== Proof.Runs.lean ====
/-
Runs: what a list of the kernel's operations needs and leaves, with the rules by which runs are put together.
-/
module

public import proofs.«01_k».proof.Proof.Protocol

@[expose] public section

noncomputable section

namespace Cert.Transpose

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

abbrev 𝒱₀ : Variants := Variants.none

/-! ## The cells' invariants, shared by all devices -/

/-- A device's scheduled cells: its barrier cell and its exchange cells. -/
abbrev CIx : Type := Unit ⊕ (Fin 4 × Fin 17)
def csem : CIx → SemLoc sig
  | .inl _ => .reg barS
  | .inr p => xsem p.1 p.2
abbrev cell (p : Dev nD × CIx) : GSem nD τ sig := ((p.1 : Thread nD τ), csem p.2)

variable (X : Dev nD → S16384x2048.Idx → Elt F .f32) (K : Dev nD × CIx → ℕ)

/-- Every scheduled cell's invariant under its name, and that it has reached round 0. -/
def records : sProp 𝕄 :=
  bigSep Finset.univ fun p : Dev nD × CIx => iprop(cellInv ER (Rd X) (K p) (cell p) ∗ reached ER (cell p) 0)
/-- That and the order of the cells. -/
def ctx : sProp 𝕄 := iprop(records X K ∗ levAts L lv)

instance records_persistent : BI.Persistent (records X K) := by unfold records; infer_instance
instance ctx_persistent : BI.Persistent (ctx X K) := by unfold ctx; infer_instance

theorem ctx_cell (p : Dev nD × CIx) : ctx X K ⊢ iprop(cellInv ER (Rd X) (K p) (cell p) ∗ reached ER (cell p) 0) :=
  (sep_elim_left (PROP := sProp 𝕄)).trans (bigSep_elim (Finset.mem_univ p))
theorem ctx_inv (p : Dev nD × CIx) : ctx X K ⊢ cellInv ER (Rd X) (K p) (cell p) := (ctx_cell X K p).trans sep_elim_left
theorem ctx_reached (p : Dev nD × CIx) : ctx X K ⊢ reached ER (cell p) 0 := (ctx_cell X K p).trans sep_elim_right
theorem ctx_mayWait {c : Dev nD} {sm : SemLoc sig} {O : CellTallies nD τ sig Unit} (h : Above (lv ((c : Thread nD τ), sm) ()) O) :
    ctx X K ⊢ MayWait (c : Thread nD τ) sm () O := (sep_elim_right (PROP := sProp 𝕄)).trans (mayWait h)

/-! ## Runs -/

/-- From `P` the operations `l` of device `c` run, leaving `R`. -/
def Runs (c : Dev nD) (l : List (Op F)) (P R : sProp 𝕄) : Prop :=
  ∀ (Q : PUnit → sProp 𝕄) (k : Prog (TpuEff nD τ sig (Elt F) Λ₀ .tc) PUnit),
    iprop(ctx X K ∗ P) ⊢ iprop((R -∗ wp frame (wpE (defs₀ (F := F)) 𝒱₀ (c : Thread nD τ) none) Set.univ k Q)
      -∗ wp frame (wpE (defs₀ (F := F)) 𝒱₀ (c : Thread nD τ) none) Set.univ (seq l k) Q)

theorem seq_append (l l' : List (Op F)) (k : Prog (TpuEff nD τ sig (Elt F) Λ₀ .tc) PUnit) : seq (l ++ l') k = seq l (seq l' k) := by
  induction l with
  | nil => rfl
  | cons w l ih => show Prog.op w (fun _ => seq (l ++ l') k) = _; rw [ih]; rfl

variable {X K} {c : Dev nD}

theorem Runs.nil {P R : sProp 𝕄} (h : P ⊢ R) : Runs X K c [] P R := by
  intro Q k
  iintro ⟨-, HP⟩ Hk
  iapply Hk
  iapply h $$ HP

theorem Runs.append {l l' : List (Op F)} {P R S : sProp 𝕄} (h : Runs X K c l P R) (h' : Runs X K c l' R S) : Runs X K c (l ++ l') P S := by
  intro Q k
  rw [seq_append]
  iintro ⟨#HI, HP⟩ Hk
  iapply (h Q (seq l' k)) $$ [HP]
  · isplitr; · iexact HI
    iexact HP
  iintro HR
  iapply (h' Q k) $$ [HR]
  · isplitr; · iexact HI
    iexact HR
  iexact Hk

theorem Runs.cons {w : Op F} {l : List (Op F)} {P R S : sProp 𝕄} (h : Runs X K c [w] P R) (h' : Runs X K c l R S) : Runs X K c (w :: l) P S :=
  h.append h'

theorem Runs.conseq {l : List (Op F)} {P P' R R' : sProp 𝕄} (h : Runs X K c l P R) (hP : P' ⊢ P) (hR : R ⊢ R') : Runs X K c l P' R' := by
  intro Q k
  iintro ⟨#HI, HP⟩ Hk
  iapply (h Q k) $$ [HP]
  · isplitr; · iexact HI
    iapply hP $$ HP
  iintro HR
  iapply Hk
  iapply hR $$ HR

theorem Runs.frame {l : List (Op F)} {P R : sProp 𝕄} (h : Runs X K c l P R) (G : sProp 𝕄) : Runs X K c l iprop(P ∗ G) iprop(R ∗ G) := by
  intro Q k
  iintro ⟨#HI, HP, HG⟩ Hk
  iapply (h Q k) $$ [HP]
  · isplitr; · iexact HI
    iexact HP
  iintro HR
  iapply Hk
  isplitl [HR] <;> iassumption

/-- `h` with what it doesn't touch, in one step. -/
theorem Runs.within {l : List (Op F)} {P P' R R' : sProp 𝕄} (h : Runs X K c l P R) (G : sProp 𝕄) (hP : P' ⊢ iprop(P ∗ G)) (hR : iprop(R ∗ G) ⊢ R') :
    Runs X K c l P' R' := (h.frame G).conseq hP hR

omit [FloatOps F] in
/-- A separating conjunction over `n + 1` indices, its first one apart. -/
theorem bigSep_fin_head {n : ℕ} (Φ : Fin (n + 1) → sProp 𝕄) :
    bigSep Finset.univ Φ = iprop(Φ 0 ∗ bigSep Finset.univ fun i : Fin n => Φ i.succ) := by
  rw [Fin.univ_succ, Finset.cons_eq_insert, BI.bigSep_insert (by simp [Fin.succ_ne_zero]), BI.bigSep_map]
  rfl

/-- A loop: its steps pass `T` on and turn each `A k` into `B k`. -/
theorem Runs.loop : ∀ {n : ℕ} {f : Fin n → List (Op F)} {T : ℕ → sProp 𝕄} {A B : Fin n → sProp 𝕄},
    (∀ k : Fin n, Runs X K c (f k) iprop(T k.val ∗ A k) iprop(T (k.val + 1) ∗ B k)) →
    Runs X K c (Cert.Transpose.loop n f) iprop(T 0 ∗ bigSep Finset.univ A) iprop(T n ∗ bigSep Finset.univ B)
  | 0, f, T, A, B, _ => Runs.nil (by rw [Finset.univ_eq_empty, bigSep_empty, bigSep_empty])
  | n + 1, f, T, A, B, h => by
    rw [bigSep_fin_head, bigSep_fin_head]
    refine ((h 0).within (bigSep Finset.univ fun i : Fin n => A i.succ) BI.sep_assoc' (R' := iprop((T 1 ∗ bigSep Finset.univ fun i : Fin n => A i.succ) ∗ B 0)) ?_).append
      ((Runs.loop (T := fun i => T (i + 1)) (A := fun i => A i.succ) (B := fun i => B i.succ) fun i => h i.succ).within (B 0) (Entails.refl _) ?_)
    · show iprop((T 1 ∗ B 0) ∗ _) ⊢ _
      iintro ⟨⟨HT, HB⟩, HA⟩
      isplitr [HB]; · isplitl [HT] <;> iassumption
      iexact HB
    · iintro ⟨⟨HT, HBs⟩, HB⟩
      isplitl [HT]; · iexact HT
      isplitl [HB] <;> iassumption

end Cert.Transpose
-- ==== Proof.Steps.lean ====
/-
Each operation of the kernel as a run: what it needs and what it leaves.
-/
module

public import proofs.«01_k».proof.Proof.Runs

@[expose] public section

noncomputable section

namespace Cert.Transpose

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring Idealize.ShloMosaic.Transfers

variable {F : FTy → Type} [FloatOps F]

local notation "𝕄" => MT nD τ sig Unit (Elt F) ℕ UU ℕ

/-! ## What is held between operations -/

section Held
variable (X : Dev nD → S16384x2048.Idx → Elt F .f32) (c : Dev nD)

/-- The device owes `O`, having waited for whatever it has. -/
def owing (O : CellTallies nD τ sig Unit) : sProp 𝕄 := iprop(∃ W : Waits sig Unit, owes (c : Thread nD τ) O W)

abbrev stageCell (c : Dev nD) (k : Fin 17) : GSem nD τ sig := ((c : Thread nD τ), .dma (at17 cc0_scratch2 k))
abbrev readCell (c : Dev nD) (j : Fin 4) : GSem nD τ sig := ((c : Thread nD τ), .dma (at4 cc0_scratch3 j))
abbrev writeCell (c : Dev nD) (j : Fin 4) : GSem nD τ sig := ((c : Thread nD τ), .dma (at4 cc0_scratch4 j))

/-- The argument's rows of a sent chunk and of a kept one. -/
def argSent (k : Fin 17) : sProp 𝕄 := iprop(aLoc c ↦[sX c k]{fullShare} X c)
def argKept (l : Fin 16) : sProp 𝕄 := iprop(aLoc c ↦[sL c l]{fullShare} X c)

/-- Where an entry of a staged chunk and of a slot lies. -/
def eS (k : Fin 17) (j : (SC k).Idx) : S8192x1024.Idx := (stM k).view.emb j
def eT (l : Fin 16) (j : S1024x1024.Idx) : S4x1024x1024.Idx := (lcM (slot l)).view.emb j

/-- Chunk `k` of the staging buffer, whatever it holds, and holding the rows to send. -/
def stageAny (k : Fin 17) : sProp 𝕄 := iprop(∃ f, sLoc c ↦[sS k]{fullShare} f)
def staged (k : Fin 17) : sProp 𝕄 :=
  iprop(∃ f : S8192x1024.Idx → Elt F .f32, ⌜∀ j, f (eS k j) = X c (eX c k j)⌝ ∗ (sLoc c ↦[sS k]{fullShare} f))
def staging (k : Fin 17) : sProp 𝕄 := Flight EC (c : Thread nD τ) (.dma (at17 cc0_scratch2 k)) () (NC k) iprop(staged X c k ∗ argSent X c k)

/-- A slot, whatever it holds, and holding the kept chunk `l`. -/
def slotAny (j : Fin 4) : sProp 𝕄 := iprop(∃ f, tLoc c ↦[sT j]{fullShare} f)
def slotHeld (l : Fin 16) : sProp 𝕄 :=
  iprop(∃ f : S4x1024x1024.Idx → Elt F .f32, ⌜∀ j, f (eT l j) = X c (eL c l j)⌝ ∗ (tLoc c ↦[sT (slot l)]{fullShare} f))

/-- The result's rows of a kept chunk, unwritten and written. -/
def outKept (l : Fin 16) : sProp 𝕄 := iprop(∃ f, oLoc c ↦[sO c l]{fullShare} f)
def outDone (l : Fin 16) : sProp 𝕄 := iprop(oLoc c ↦[sO c l]{fullShare} outAt X c)

def slotReading (l : Fin 16) : sProp 𝕄 :=
  Flight EC (c : Thread nD τ) (.dma (at4 cc0_scratch3 (slot l))) () NK iprop(slotHeld X c l ∗ argKept X c l)
def slotWriting (l : Fin 16) : sProp 𝕄 :=
  Flight EC (c : Thread nD τ) (.dma (at4 cc0_scratch4 (slot l))) () NK iprop(outDone X c l ∗ slotAny c (slot l))

end Held

/-! ## What a copy leaves -/

/-- A piece's entries are those its view places. -/
theorem forall_set {κ : Kind} {sp : Space} {s : Shape} {e : EltTy} {M : Memref sig κ sp s e} {P : M.view.ty.Idx → Prop} (h : ∀ j, P (M.view.emb j)) :
    ∀ i ∈ M.view.set, P i := by
  intro i hi
  obtain ⟨j, -, rfl⟩ := Finset.mem_map.mp hi
  exact h j

theorem staged_of_copy (X : Dev nD → S16384x2048.Idx → Elt F .f32) (c : Dev nD) (k : Fin 17) (f : S8192x1024.Idx → Elt F .f32) (j : (SC k).Idx) :
    (stM k).view.write (Elt F) f ((xS c k).view.read (Elt F) (X c)) Finset.univ (eS k j) = X c (eX c k j) :=
  View.write_emb_of_mem (Val := Elt F) (v := (stM k).view) f _ (Finset.mem_univ j)

theorem held_of_copy (X : Dev nD → S16384x2048.Idx → Elt F .f32) (c : Dev nD) (l : Fin 16) (f : S4x1024x1024.Idx → Elt F .f32) (j : S1024x1024.Idx) :
    (lcM (slot l)).view.write (Elt F) f ((xL c l).view.read (Elt F) (X c)) Finset.univ (eT l j) = X c (eL c l j) :=
  View.write_emb_of_mem (Val := Elt F) (v := (lcM (slot l)).view) f _ (Finset.mem_univ j)

theorem first_of_copy (X : Dev nD → S16384x2048.Idx → Elt F .f32) (c : Dev nD) (k : Fin 17) (f : S32768x1024.Idx → Elt F .f32)
    (g : S8192x1024.Idx → Elt F .f32) (hg : ∀ j, g (eS k j) = X c (eX c k j)) :
    ∀ i ∈ sB (yp c) k, (oB (yp c) k).view.write (Elt F) f ((stM k).view.read (Elt F) g) Finset.univ i = outAt X (yp c) i :=
  forall_set (M := oB (yp c) k) fun j => (View.write_emb_of_mem (Val := Elt F) (v := (oB (yp c) k).view) f _ (Finset.mem_univ j)).trans
    ((hg j).trans (outAt_first X c k j).symm)

theorem second_of_copy (X : Dev nD → S16384x2048.Idx → Elt F .f32) (c : Dev nD) (k : Fin 17) (f : S32768x1024.Idx → Elt F .f32) :
    ∀ i ∈ sB c k, (oB c k).view.write (Elt F) f ((oB c k).view.read (Elt F) (outAt X c)) Finset.univ i = outAt X (xn c) i :=
  forall_set (M := oB c k) fun j => (View.write_emb_of_mem (Val := Elt F) (v := (oB c k).view) f _ (Finset.mem_univ j)).trans
    (outAt_second X c k j).symm

theorem kept_of_copy (X : Dev nD → S16384x2048.Idx → Elt F .f32) (c : Dev nD) (l : Fin 16) (f : S32768x1024.Idx → Elt F .f32)
    (g : S4x1024x1024.Idx → Elt F .f32) (hg : ∀ j, g (eT l j) = X c (eL c l j)) :
    ∀ i ∈ sO c l, (oL c l).view.write (Elt F) f ((lcM (slot l)).view.read (Elt F) g) Finset.univ i = outAt X c i :=
  forall_set (M := oL c l) fun j => (View.write_emb_of_mem (Val := Elt F) (v := (oL c l).view) f _ (Finset.mem_univ j)).trans
    ((hg j).trans (outAt_kept X c l j).symm)

/-! ## Copies inside a device -/

variable {X : Dev nD → S16384x2048.Idx → Elt F .f32} {K : Dev nD × CIx → ℕ} {c : Dev nD}

theorem run_stage (k : Fin 17) :
    Runs X K c [opStage c k] iprop(argSent X c k ∗ stageAny c k ∗ semVal (stageCell c k) 0) (staging X c k) := by
  intro Q K'
  unfold argSent stageAny staging
  iintro ⟨-, Ha, ⟨%f, Hs⟩, Hv⟩ Hk
  iapply (wp_dmaLocal EC 𝒱₀ (c : Thread nD τ) none (src := xS c k) (dst := stM k) (Sd := sS k) (fd := f) (fs := X c) () (NC k) rfl (NC_pos k)
    (Finset.Subset.refl _)) $$ [Ha Hs Hv]
  · isplitl [Ha]; · iexact Ha
    isplitl [Hs]; · iexact Hs
    iexact Hv
  iintro Hf
  iapply Hk
  iapply (Flight_mono EC (c : Thread nD τ) ?_) $$ Hf
  unfold staged argSent
  iintro ⟨Hs, Ha⟩
  isplitl [Hs]
  · iexists _; isplitr; · ipureintro; exact staged_of_copy X c k f
    iexact Hs
  iexact Ha

theorem run_read (l : Fin 16) :
    Runs X K c [opRead c l] iprop(argKept X c l ∗ slotAny c (slot l) ∗ semVal (readCell c (slot l)) 0) (slotReading X c l) := by
  intro Q K'
  unfold argKept slotAny slotReading
  iintro ⟨-, Ha, ⟨%f, Hs⟩, Hv⟩ Hk
  iapply (wp_dmaLocal EC 𝒱₀ (c : Thread nD τ) none (src := xL c l) (dst := lcM (slot l)) (Sd := sT (slot l)) (fd := f) (fs := X c) () NK rfl NK_pos
    (Finset.Subset.refl _)) $$ [Ha Hs Hv]
  · isplitl [Ha]; · iexact Ha
    isplitl [Hs]; · iexact Hs
    iexact Hv
  iintro Hf
  iapply Hk
  iapply (Flight_mono EC (c : Thread nD τ) ?_) $$ Hf
  unfold slotHeld argKept
  iintro ⟨Hs, Ha⟩
  isplitl [Hs]
  · iexists _; isplitr; · ipureintro; exact held_of_copy X c l f
    iexact Hs
  iexact Ha

theorem run_write (l : Fin 16) :
    Runs X K c [opWrite c l] iprop(slotHeld X c l ∗ outKept c l ∗ semVal (writeCell c (slot l)) 0) (slotWriting X c l) := by
  intro Q K'
  unfold slotHeld outKept slotWriting
  iintro ⟨-, ⟨%g, %hg, Hs⟩, ⟨%f, Ho⟩, Hv⟩ Hk
  iapply (wp_dmaLocal EC 𝒱₀ (c : Thread nD τ) none (src := lcM (slot l)) (dst := oL c l) (Sd := sO c l) (fd := f) (fs := g) () NK rfl NK_pos
    (Finset.Subset.refl _)) $$ [Hs Ho Hv]
  · isplitl [Hs]; · iexact Hs
    isplitl [Ho]; · iexact Ho
    iexact Hv
  iintro Hf
  iapply Hk
  iapply (Flight_mono EC (c : Thread nD τ) ?_) $$ Hf
  unfold outDone slotAny
  iintro ⟨Ho, Hs⟩
  isplitl [Ho]
  · iapply (Entails.of_eq (show (oLoc c ↦[sO c l]{fullShare} (oL c l).view.write (Elt F) f ((lcM (slot l)).view.read (Elt F) g) Finset.univ : sProp 𝕄)
        = (oLoc c ↦[sO c l]{fullShare} outAt X c) from pointsTo_congr (kept_of_copy X c l f g hg)))
    iexact Ho
  iexists g; iexact Hs

/-- A local copy's wait, owing only what is owed to cells above. -/
theorem run_waitLocal {s : DmaSem sig} (hs : kindOf s = none) {sp sp' : Space} {t t' : Shape} {e e' : EltTy}
    {srcw : Memref sig .tc sp' t' e'} {dstw : Memref sig .tc sp t e} {hsrc : srcw.view.WordExact} {hdst : dstw.view.WordExact}
    {N : ℕ} (hN : dstw.view.dmaCredit = N) {D : sProp 𝕄} {O : CellTallies nD τ sig Unit} (hO : Above 0 O) :
    Runs X K c [(.waitDma2 s srcw dstw hsrc hdst : Op F)] iprop(owing c O ∗ Flight EC (c : Thread nD τ) (.dma s) () N D)
      iprop(owing c O ∗ D ∗ semVal ((c : Thread nD τ), .dma s) 0) := by
  intro Q K'
  unfold owing
  iintro ⟨#HI, ⟨%W, HO⟩, Hf⟩ Hk
  iapply (wp_waitLocalO EC 𝒱₀ (c : Thread nD τ) none () hN (O := O) (W := W)) $$ [HO Hf]
  · isplitl [Hf]; · iexact Hf
    isplitl [HO]; · iexact HO
    iapply (ctx_mayWait X K (by rw [lv_local hs]; exact hO)) $$ HI
  iintro ⟨HD, Hv, HO⟩
  iapply Hk
  isplitl [HO]; · iexists _; iexact HO
  isplitl [HD] <;> iassumption

theorem run_staged (k : Fin 17) {O : CellTallies nD τ sig Unit} (hO : Above 0 O) :
    Runs X K c [opStaged c k] iprop(owing c O ∗ staging X c k) iprop(owing c O ∗ (staged X c k ∗ argSent X c k) ∗ semVal (stageCell c k) 0) :=
  run_waitLocal (srcw := xS c k) (dstw := stM k) (hsrc := (View.wordExact_bits rfl)) (hdst := (View.wordExact_bits rfl)) (kindOf_stage k) rfl hO

theorem run_readDone (l : Fin 16) {O : CellTallies nD τ sig Unit} (hO : Above 0 O) :
    Runs X K c [opReadDone c l] iprop(owing c O ∗ slotReading X c l)
      iprop(owing c O ∗ (slotHeld X c l ∗ argKept X c l) ∗ semVal (readCell c (slot l)) 0) :=
  run_waitLocal (srcw := xL c l) (dstw := lcM (slot l)) (hsrc := (View.wordExact_bits rfl)) (hdst := ((View.wordExact_bits rfl).reshape _ _))
    (kindOf_read (slot l)) rfl hO

theorem run_written (l : Fin 16) {O : CellTallies nD τ sig Unit} (hO : Above 0 O) :
    Runs X K c [opWritten c l] iprop(owing c O ∗ slotWriting X c l)
      iprop(owing c O ∗ (outDone X c l ∗ slotAny c (slot l)) ∗ semVal (writeCell c (slot l)) 0) :=
  run_waitLocal (srcw := lcM (slot l)) (dstw := oL c l) (hsrc := ((View.wordExact_bits rfl).reshape _ _)) (hdst := (View.wordExact_bits rfl))
    (kindOf_write (slot l)) rfl hO

/-! ## The meeting -/

/-- What the meeting leaves: the partners' places to write. -/
theorem run_meet :
    Runs X K c (meetOps c)
      iprop(owing c (O₀ c) ∗ (yPlaces c ∗ xPlaces c) ∗ (dutyTok ER (barCell (yp c)) 0 false ∗ dutyTok ER (barCell (xn c)) 0 true)
        ∗ cred (tallyAt (barCell c) () 2) ∗ atPos ER (barCell c) 0 ∅ 0)
      iprop(owing c (O₂ c) ∗ (yPlaces (yp c) ∗ xPlaces (xn c)) ∗ atPos ER (barCell c) 1 ∅ 0) := by
  intro Q K'
  unfold owing meetOps
  simp only [seq, opSignalY, opSignalX, opMet, dev1_eq, dev2_eq]
  iintro ⟨#HI, ⟨%W, HO⟩, ⟨Hy, Hx⟩, ⟨HtY, HtX⟩, Hc, Hat⟩ Hk
  iapply (Rounds.wp_signal 𝒱₀ ER (Rd X) (c : Thread nD τ) none (dst := (yp c : Thread nD τ)) (κ := K (yp c, .inl ())) (r := 0)
      (d := false) (by rw [duties_bar]; exact Finset.mem_univ _) ((amount_bar X (yp c) false).trans (by decide)) () (O₁ c) rfl)
    $$ [HO HtY Hy]
  · isplitr; · iapply (ctx_inv X K (yp c, .inl ())) $$ HI
    isplitl [HO]; · iexact HO
    isplitl [HtY]; · iexact HtY
    isplitl [Hy]; · rw [payload_bar_false, yp_yp]; iexact Hy
    iapply (ctx_reached X K (yp c, .inl ())) $$ HI
  iintro HO
  iapply (Rounds.wp_signal 𝒱₀ ER (Rd X) (c : Thread nD τ) none (dst := (xn c : Thread nD τ)) (κ := K (xn c, .inl ())) (r := 0)
      (d := true) (by rw [duties_bar]; exact Finset.mem_univ _) ((amount_bar X (xn c) true).trans (by decide)) () (O₂ c) rfl)
    $$ [HO HtX Hx]
  · isplitr; · iapply (ctx_inv X K (xn c, .inl ())) $$ HI
    isplitl [HO]; · iexact HO
    isplitl [HtX]; · iexact HtX
    isplitl [Hx]; · rw [payload_bar_true, xn_xn]; iexact Hx
    iapply (ctx_reached X K (xn c, .inl ())) $$ HI
  iintro HO
  iapply (Rounds.wp_wait_rest_token 𝒱₀ ER (Rd X) (c : Thread nD τ) none (κ := K (c, .inl ()))
      (wpE_semWait_eq 𝒱₀ (c : Thread nD τ) none Set.univ) (Set.mem_univ _) () (O := O₂ c) (W := W) (R := 0) (m := 0) (T := ∅)
      (by rw [expect_bar]; decide)) $$ [Hc HO Hat]
  · isplitr; · iapply (ctx_inv X K (c, .inl ())) $$ HI
    isplitl [Hc]; · iexact Hc
    isplitl [HO]; · iexact HO
    isplitr
    · iapply (ctx_mayWait X K ?_) $$ HI
      rw [lv_bar]
      exact above_add (above_owe (by decide) _ _) (above_owe (by decide) _ _)
    iexact Hat
  iintro ⟨HO, Hat, -, Hpay⟩
  ihave Hp := (Entails.of_eq (rest_bar X c)) $$ Hpay
  iapply Hk
  isplitl [HO]; · iexists _; iexact HO
  isplitl [Hp]; · iexact Hp
  iexact Hat

/-! ## Exchanges -/

/-- The first exchange of chunk `k`: a staged chunk goes where the column partner receives. -/
theorem wp_first (k : Fin 17) (n : Dev nD) (hn : n = yp c) (o : Memref sig .tc .hbm (SC k) .f32) (ho : o = oB (yp c) k)
    {hsc : o.view.ref.isScScratch = false} {hsrc : (stM k).view.WordExact} {hdst : o.view.WordExact}
    {hsem : DmaTarget.Typed .vmem (xsem 1 k) (.remote (Dev.tc n : Thread nD τ) o (xsem 0 k) hsc)} (O : CellTallies nD τ sig Unit) :
    Runs X K c [(.enqueueDma (stM k) (.remote (Dev.tc n : Thread nD τ) o (xsem 0 k) hsc) (xsem 1 k) hsrc hdst hsem : Op F)]
      iprop(owing c (O + tallyAt (xcell 1 (yp c) k) () (NC k)) ∗ staged X c k ∗ (∃ f, oLoc (yp c) ↦[sB (yp c) k]{fullShare} f)
        ∗ dutyTok ER (xcell 0 c k) 0 false ∗ dutyTok ER (xcell 1 (yp c) k) 0 false)
      iprop(owing c O ∗ cred (tallyAt (xcell 0 c k) () (NC k))) := by
  subst hn ho
  intro Q K'
  unfold owing staged
  iintro ⟨#HI, ⟨%W, HO⟩, ⟨%g, %hg, Hs⟩, ⟨%f, Ho⟩, Ht0, Ht1⟩ Hk
  iapply (Rounds.wp_send_pointsTo 𝒱₀ ER (Rd X) (c : Thread nD τ) none (c' := Dev.tc (yp c)) (src := stM k) (dst := oB (yp c) k)
      (κ₁ := K (c, .inr (0, k))) (κ₂ := K (yp c, .inr (1, k)))
      (r₁ := 0) (r₂ := 0) (d₁ := false) (d₂ := false) (fs := g) (fd := f)
      (by rw [duties_x]; exact Finset.mem_singleton_self _) (by rw [duties_x]; exact Finset.mem_singleton_self _)
      () () (NC k) rfl (amount_x X c 0 k false) (amount_x X (yp c) 1 k false) O rfl (W := W)
      (by rw [payload_x]; unfold xpay; iintro H; iexists g; iexact H)
      (by rw [payload_x]; exact Entails.of_eq (pointsTo_congr (first_of_copy X c k f g hg)))) $$ [HO Hs Ho Ht0 Ht1]
  · isplitr; · iapply (ctx_inv X K (c, .inr (0, k))) $$ HI
    isplitr; · iapply (ctx_inv X K (yp c, .inr (1, k))) $$ HI
    isplitl [Hs]; · iexact Hs
    isplitl [Ho]; · iexact Ho
    isplitl [HO]; · iexact HO
    isplitl [Ht0]; · iexact Ht0
    isplitr; · iapply (ctx_reached X K (c, .inr (0, k))) $$ HI
    isplitl [Ht1]; · iexact Ht1
    iapply (ctx_reached X K (yp c, .inr (1, k))) $$ HI
  iintro ⟨Hc, HO⟩
  iapply Hk
  isplitl [HO]; · iexists _; iexact HO
  iexact Hc

theorem sC_xn (c : Dev nD) (k : Fin 17) : sC (xn c) k = sB c k := by
  ext i
  have h := xn_val c
  rw [mem_oC, mem_oB]
  rw [h]
  have : c.val < 4 := c.isLt
  omega

/-- The second: what was received first goes on to where the row partner receives it. -/
theorem wp_second (k : Fin 17) (n : Dev nD) (hn : n = xn c)
    {hsc : (oB c k).view.ref.isScScratch = false} {hsrc : (oB c k).view.WordExact} {hdst : (oB c k).view.WordExact}
    {hsem : DmaTarget.Typed .hbm (xsem 3 k) (.remote (Dev.tc n : Thread nD τ) (oB c k) (xsem 2 k) hsc)} (O : CellTallies nD τ sig Unit) :
    Runs X K c [(.enqueueDma (oB c k) (.remote (Dev.tc n : Thread nD τ) (oB c k) (xsem 2 k) hsc) (xsem 3 k) hsrc hdst hsem : Op F)]
      iprop(owing c (O + tallyAt (xcell 3 (xn c) k) () (NC k)) ∗ (oLoc c ↦[sB c k]{fullShare} outAt X c)
        ∗ (∃ f, oLoc (xn c) ↦[sC (xn c) k]{fullShare} f)
        ∗ dutyTok ER (xcell 2 c k) 0 false ∗ dutyTok ER (xcell 3 (xn c) k) 0 false)
      iprop(owing c O ∗ cred (tallyAt (xcell 2 c k) () (NC k))) := by
  subst hn
  intro Q K'
  have hBC : sC (xn c) k = sB c k := sC_xn c k
  unfold owing
  rw [hBC]
  iintro ⟨#HI, ⟨%W, HO⟩, Hs, ⟨%f, Ho⟩, Ht0, Ht1⟩ Hk
  iapply (Rounds.wp_send_pointsTo 𝒱₀ ER (Rd X) (c : Thread nD τ) none (c' := Dev.tc (xn c)) (src := oB c k) (dst := oB c k)
      (κ₁ := K (c, .inr (2, k))) (κ₂ := K (xn c, .inr (3, k)))
      (r₁ := 0) (r₂ := 0) (d₁ := false) (d₂ := false) (fs := outAt X c) (fd := f)
      (by rw [duties_x]; exact Finset.mem_singleton_self _) (by rw [duties_x]; exact Finset.mem_singleton_self _)
      () () (NC k) rfl (amount_x X c 2 k false) (amount_x X (xn c) 3 k false) O rfl (W := W)
      (by rw [payload_x]; exact Entails.refl _)
      (by rw [payload_x]; unfold xpay; rw [hBC]; exact Entails.of_eq (pointsTo_congr (second_of_copy X c k f)))) $$ [HO Hs Ho Ht0 Ht1]
  · isplitr; · iapply (ctx_inv X K (c, .inr (2, k))) $$ HI
    isplitr; · iapply (ctx_inv X K (xn c, .inr (3, k))) $$ HI
    isplitl [Hs]; · iexact Hs
    isplitl [Ho]; · iexact Ho
    isplitl [HO]; · iexact HO
    isplitl [Ht0]; · iexact Ht0
    isplitr; · iapply (ctx_reached X K (c, .inr (2, k))) $$ HI
    isplitl [Ht1]; · iexact Ht1
    iapply (ctx_reached X K (xn c, .inr (3, k))) $$ HI
  iintro ⟨Hc, HO⟩
  iapply Hk
  isplitl [HO]; · iexists _; iexact HO
  iexact Hc

theorem run_send1 (k : Fin 17) (O : CellTallies nD τ sig Unit) :
    Runs X K c [opSend1 c k]
      iprop(owing c (O + tallyAt (xcell 1 (yp c) k) () (NC k)) ∗ staged X c k ∗ (∃ f, oLoc (yp c) ↦[sB (yp c) k]{fullShare} f)
        ∗ dutyTok ER (xcell 0 c k) 0 false ∗ dutyTok ER (xcell 1 (yp c) k) 0 false)
      iprop(owing c O ∗ cred (tallyAt (xcell 0 c k) () (NC k))) :=
  wp_first k _ (dev3_eq c) (oA c k) (oA_eq c k) O

theorem run_send2 (k : Fin 17) (O : CellTallies nD τ sig Unit) :
    Runs X K c [opSend2 c k]
      iprop(owing c (O + tallyAt (xcell 3 (xn c) k) () (NC k)) ∗ (oLoc c ↦[sB c k]{fullShare} outAt X c)
        ∗ (∃ f, oLoc (xn c) ↦[sC (xn c) k]{fullShare} f)
        ∗ dutyTok ER (xcell 2 c k) 0 false ∗ dutyTok ER (xcell 3 (xn c) k) 0 false)
      iprop(owing c O ∗ cred (tallyAt (xcell 2 c k) () (NC k))) :=
  wp_second k _ (dev20_eq c) O

/-- The wait for an exchange's cell hands over what the cell carries. -/
theorem run_waitX (a : Fin 4) (k : Fin 17) {sp sp' : Space} {t t' : Shape} {e e' : EltTy}
    {srcw : Memref sig .tc sp' t' e'} {dstw : Memref sig .tc sp t e} {hsrc : srcw.view.WordExact} {hdst : dstw.view.WordExact}
    (hN : dstw.view.dmaCredit = NC k) {O : CellTallies nD τ sig Unit} (hO : Above (if a = 1 then 2 else if a = 3 then 3 else 0) O) :
    Runs X K c [(.waitDma2 (at17 (arr a) k) srcw dstw hsrc hdst : Op F)]
      iprop(owing c O ∗ cred (tallyAt (xcell a c k) () (NC k)) ∗ atPos ER (xcell a c k) 0 ∅ 0)
      iprop(owing c O ∗ xpay X a k c ∗ atPos ER (xcell a c k) 1 ∅ 0) := by
  intro Q K'
  unfold owing
  iintro ⟨#HI, ⟨%W, HO⟩, Hc, Hat⟩ Hk
  iapply (Rounds.wp_wait_rest_token 𝒱₀ ER (Rd X) (c : Thread nD τ) none (κ := K (c, .inr (a, k)))
      (wpE_waitDma2_eq 𝒱₀ (c : Thread nD τ) none Set.univ) (Set.mem_univ _) () (O := O) (W := W) (R := 0) (m := 0) (T := ∅)
      (by rw [Nat.zero_add, expect_x]; exact hN)) $$ [Hc HO Hat]
  · isplitr; · iapply (ctx_inv X K (c, .inr (a, k))) $$ HI
    isplitl [Hc]; · rw [hN]; iexact Hc
    isplitl [HO]; · iexact HO
    isplitr; · iapply (ctx_mayWait X K (by rw [lv_x]; exact hO)) $$ HI
    iexact Hat
  iintro ⟨HO, Hat, -, Hpay⟩
  ihave Hp := (Entails.of_eq (rest_x X c a k)) $$ Hpay
  iapply Hk
  isplitl [HO]; · iexists _; iexact HO
  isplitl [Hp] <;> iassumption

theorem run_sent1 (k : Fin 17) {O : CellTallies nD τ sig Unit} (hO : Above 0 O) :
    Runs X K c [opSent1 c k] iprop(owing c O ∗ cred (tallyAt (xcell 0 c k) () (NC k)) ∗ atPos ER (xcell 0 c k) 0 ∅ 0)
      iprop(owing c O ∗ stageAny c k ∗ atPos ER (xcell 0 c k) 1 ∅ 0) :=
  run_waitX 0 k (srcw := oA c k) (dstw := stM k) (hsrc := (View.wordExact_bits rfl)) (hdst := (View.wordExact_bits rfl)) rfl hO
theorem run_recv1 (k : Fin 17) {O : CellTallies nD τ sig Unit} (hO : Above 2 O) :
    Runs X K c [opRecv1 c k] iprop(owing c O ∗ cred (tallyAt (xcell 1 c k) () (NC k)) ∗ atPos ER (xcell 1 c k) 0 ∅ 0)
      iprop(owing c O ∗ (oLoc c ↦[sB c k]{fullShare} outAt X c) ∗ atPos ER (xcell 1 c k) 1 ∅ 0) :=
  run_waitX 1 k (srcw := stM k) (dstw := oB c k) (hsrc := (View.wordExact_bits rfl)) (hdst := (View.wordExact_bits rfl)) rfl hO
theorem run_sent2 (k : Fin 17) {O : CellTallies nD τ sig Unit} (hO : Above 0 O) :
    Runs X K c [opSent2 c k] iprop(owing c O ∗ cred (tallyAt (xcell 2 c k) () (NC k)) ∗ atPos ER (xcell 2 c k) 0 ∅ 0)
      iprop(owing c O ∗ (oLoc c ↦[sB c k]{fullShare} outAt X c) ∗ atPos ER (xcell 2 c k) 1 ∅ 0) :=
  run_waitX 2 k (srcw := oB c k) (dstw := oB c k) (hsrc := (View.wordExact_bits rfl)) (hdst := (View.wordExact_bits rfl)) rfl hO
theorem run_recv2 (k : Fin 17) {O : CellTallies nD τ sig Unit} (hO : Above 3 O) :
    Runs X K c [opRecv2 c k] iprop(owing c O ∗ cred (tallyAt (xcell 3 c k) () (NC k)) ∗ atPos ER (xcell 3 c k) 0 ∅ 0)
      iprop(owing c O ∗ (oLoc c ↦[sC c k]{fullShare} outAt X c) ∗ atPos ER (xcell 3 c k) 1 ∅ 0) :=
  run_waitX 3 k (srcw := oC c k) (dstw := oC c k) (hsrc := (View.wordExact_bits rfl)) (hdst := (View.wordExact_bits rfl)) rfl hO

end Cert.Transpose
-- ==== Proof.Body.lean ====
/-
The kernel's body as a run: its phases, each a loop over the chunks, one after another.
-/
module

public import proofs.«01_k».proof.Proof.Steps

@[expose] public section

noncomputable section

namespace Cert.Transpose

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring Idealize.ShloMosaic.Transfers

variable {F : FTy → Type} [FloatOps F]

local notation "𝕄" => MT nD τ sig Unit (Elt F) ℕ UU ℕ

/-! ## The kept chunks -/

section Kept
variable (X : Dev nD → S16384x2048.Idx → Elt F .f32) (c : Dev nD)

/-- A kept chunk not yet begun, being read, being written, and done. -/
def fresh (l : Fin 16) : sProp 𝕄 := iprop(argKept X c l ∗ outKept c l)
def reading (l : Fin 16) : sProp 𝕄 := iprop(slotReading X c l ∗ outKept c l ∗ semVal (writeCell c (slot l)) 0)
def writing (l : Fin 16) : sProp 𝕄 := iprop(argKept X c l ∗ slotWriting X c l ∗ semVal (readCell c (slot l)) 0)
def finished (l : Fin 16) : sProp 𝕄 := iprop(argKept X c l ∗ outDone X c l)
/-- After its step a chunk is done, but the last four, which no later chunk waits for, are still being written. -/
def stepped (l : Fin 16) : sProp 𝕄 := if l.val < 12 then finished X c l else writing X c l

/-- A slot at rest. -/
def slotFree (j : Fin 4) : sProp 𝕄 := iprop(slotAny c j ∗ semVal (readCell c j) 0 ∗ semVal (writeCell c j) 0)

/-- The kept chunks after `n` steps. -/
def kept (n : ℕ) : sProp 𝕄 :=
  iprop(bigSep (rangeSet 16 0 n) (stepped X c) ∗ bigSep (rangeSet 16 n (n + 4)) (reading X c) ∗ bigSep (rangeSet 16 (n + 4) 16) (fresh X c))

end Kept

theorem slot_next (l : Fin 16) (h : l.val + 4 < 16) : slot ⟨l.val + 4, h⟩ = slot l := Fin.ext (Nat.add_mod_right _ _)

omit [FloatOps F] in
/-- Four consecutive ones of sixteen, counted from the first. -/
theorem bigSep_four (lo : ℕ) (h : lo + 4 ≤ 16) (Φ : Fin 16 → sProp 𝕄) :
    bigSep (rangeSet 16 lo (lo + 4)) Φ = bigSep Finset.univ fun j : Fin 4 => Φ ⟨j.val + lo, by omega⟩ := by
  let Ψ : ℕ → sProp 𝕄 := fun k => if h : lo + k < 16 then Φ ⟨lo + k, h⟩ else BI.emp
  rw [bigSep_rangeSet_eq_range h Ψ fun k hk => dif_pos hk, bigSep_fin_eq_range 4 _ Ψ, Nat.add_sub_cancel_left]
  intro t ht
  have e : (⟨lo + t, by omega⟩ : Fin 16) = ⟨t + lo, by omega⟩ := Fin.ext (Nat.add_comm lo t)
  exact (dif_pos (by omega)).trans (congrArg Φ e)

variable {X : Dev nD → S16384x2048.Idx → Elt F .f32} {K : Dev nD × CIx → ℕ} {c : Dev nD}

/-- A kept chunk's step while a later chunk takes its slot; -/
theorem run_keep_more (l : Fin 16) (h : l.val + 4 < 16) {O : CellTallies nD τ sig Unit} (hO : Above 0 O) :
    Runs X K c (keepStep c l) iprop(owing c O ∗ reading X c l ∗ fresh X c ⟨l.val + 4, h⟩)
      iprop(owing c O ∗ finished X c l ∗ reading X c ⟨l.val + 4, h⟩) := by
  have hr := run_read (X := X) (K := K) (c := c) ⟨l.val + 4, h⟩
  rw [slot_next l h] at hr
  unfold keepStep reading finished fresh
  rw [dif_pos h, slot_next l h]
  refine ((run_readDone l hO).within iprop((outKept c l ∗ semVal (writeCell c (slot l)) 0) ∗ (argKept X c ⟨l.val + 4, h⟩ ∗ outKept c ⟨l.val + 4, h⟩)) ?_
    (Entails.refl _)).cons (((run_write l).within iprop((owing c O ∗ argKept X c l ∗ semVal (readCell c (slot l)) 0)
      ∗ (argKept X c ⟨l.val + 4, h⟩ ∗ outKept c ⟨l.val + 4, h⟩)) ?_ (Entails.refl _)).cons
      (((run_written l hO).within iprop((argKept X c l ∗ semVal (readCell c (slot l)) 0) ∗ (argKept X c ⟨l.val + 4, h⟩ ∗ outKept c ⟨l.val + 4, h⟩)) ?_
        (Entails.refl _)).cons (hr.within iprop((owing c O ∗ argKept X c l ∗ outDone X c l) ∗ (outKept c ⟨l.val + 4, h⟩ ∗ semVal (writeCell c (slot l)) 0)) ?_ ?_)))
  · iintro ⟨HO, ⟨H1, H2, H3⟩, H4⟩
    isplitl [HO H1]; · isplitl [HO] <;> iassumption
    isplitl [H2 H3]; · isplitl [H2] <;> iassumption
    iexact H4
  · iintro ⟨⟨HO, ⟨H1, H2⟩, H3⟩, ⟨H4, H5⟩, H6⟩
    isplitl [H1 H4 H5]
    · isplitl [H1]; · iexact H1
      isplitl [H4] <;> iassumption
    isplitl [HO H2 H3]
    · isplitl [HO]; · iexact HO
      isplitl [H2] <;> iassumption
    iexact H6
  · iintro ⟨H1, ⟨HO, H2, H3⟩, H4⟩
    isplitl [HO H1]; · isplitl [HO] <;> iassumption
    isplitl [H2 H3]; · isplitl [H2] <;> iassumption
    iexact H4
  · iintro ⟨⟨HO, ⟨H1, H2⟩, H3⟩, ⟨H4, H5⟩, H6, H7⟩
    isplitl [H6 H2 H5]
    · isplitl [H6]; · iexact H6
      isplitl [H2] <;> iassumption
    isplitl [HO H4 H1]
    · isplitl [HO]; · iexact HO
      isplitl [H4] <;> iassumption
    isplitl [H7] <;> iassumption
  · iintro ⟨H1, ⟨HO, H2, H3⟩, H4, H5⟩
    isplitl [HO]; · iexact HO
    isplitl [H2 H3]; · isplitl [H2] <;> iassumption
    isplitl [H1]; · iexact H1
    isplitl [H4] <;> iassumption

/-- and while none does. -/
theorem run_keep_last (l : Fin 16) (h : ¬l.val + 4 < 16) {O : CellTallies nD τ sig Unit} (hO : Above 0 O) :
    Runs X K c (keepStep c l) iprop(owing c O ∗ reading X c l) iprop(owing c O ∗ writing X c l) := by
  unfold keepStep reading writing
  rw [dif_neg h]
  refine ((run_readDone l hO).within iprop(outKept c l ∗ semVal (writeCell c (slot l)) 0) BI.sep_assoc'
    (Entails.refl _)).cons ((run_write l).within iprop(owing c O ∗ argKept X c l ∗ semVal (readCell c (slot l)) 0) ?_ ?_)
  · iintro ⟨⟨HO, ⟨H1, H2⟩, H3⟩, H4, H5⟩
    isplitl [H1 H4 H5]
    · isplitl [H1]; · iexact H1
      isplitl [H4] <;> iassumption
    isplitl [HO]; · iexact HO
    isplitl [H2] <;> iassumption
  · iintro ⟨H1, HO, H2, H3⟩
    isplitl [HO]; · iexact HO
    isplitl [H2]; · iexact H2
    isplitl [H1] <;> iassumption

/-- One step of the kept chunks. -/
theorem run_keep (l : Fin 16) {O : CellTallies nD τ sig Unit} (hO : Above 0 O) :
    Runs X K c (keepStep c l) iprop(owing c O ∗ kept X c l.val) iprop(owing c O ∗ kept X c (l.val + 1)) := by
  unfold kept
  rw [bigSep_rangeSet_head (lo := l.val) (hi := l.val + 4) (by omega) l.isLt, bigSep_rangeSet_last (lo := 0) (hi := l.val + 1) (by omega) (by omega)]
  by_cases h : l.val + 4 < 16
  · rw [bigSep_rangeSet_head (lo := l.val + 4) (hi := 16) h h, bigSep_rangeSet_last (lo := l.val + 1) (hi := l.val + 1 + 4) (by omega) (by omega)]
    rw [show stepped X c ⟨l.val + 1 - 1, by omega⟩ = finished X c l from if_pos (by show l.val < 12; omega)]
    rw [show (⟨l.val + 1 + 4 - 1, by omega⟩ : Fin 16) = ⟨l.val + 4, h⟩ from Fin.ext (by show l.val + 1 + 4 - 1 = l.val + 4; omega)]
    rw [show l.val + 1 + 4 - 1 = l.val + 4 by omega, show l.val + 1 + 4 = l.val + 4 + 1 by omega]
    refine (run_keep_more l h hO).within iprop(bigSep (rangeSet 16 0 l.val) (stepped X c) ∗ bigSep (rangeSet 16 (l.val + 1) (l.val + 4)) (reading X c)
      ∗ bigSep (rangeSet 16 (l.val + 4 + 1) 16) (fresh X c)) ?_ ?_
    · iintro ⟨HO, H1, ⟨H2, H3⟩, H4, H5⟩
      isplitl [HO H2 H4]
      · isplitl [HO]; · iexact HO
        isplitl [H2] <;> iassumption
      isplitl [H1]; · iexact H1
      isplitl [H3] <;> iassumption
    · iintro ⟨⟨HO, H2, H4⟩, H1, H3, H5⟩
      isplitl [HO]; · iexact HO
      isplitl [H2 H1]; · isplitl [H2]; · iexact H2
                         iexact H1
      isplitl [H4 H3]; · isplitl [H4] <;> iassumption
      iexact H5
  · rw [show stepped X c ⟨l.val + 1 - 1, by omega⟩ = writing X c l from if_neg (by show ¬l.val < 12; omega)]
    rw [show rangeSet 16 (l.val + 1) (l.val + 1 + 4) = rangeSet 16 (l.val + 1) (l.val + 4) from by
      ext b; rw [mem_rangeSet, mem_rangeSet]; have := b.isLt; omega]
    rw [bigSep_rangeSet_empty (lo := l.val + 4) (hi := 16) (by omega), bigSep_rangeSet_empty (lo := l.val + 1 + 4) (hi := 16) (by omega)]
    refine (run_keep_last l h hO).within iprop(bigSep (rangeSet 16 0 l.val) (stepped X c) ∗ bigSep (rangeSet 16 (l.val + 1) (l.val + 4)) (reading X c)) ?_ ?_
    · iintro ⟨HO, H1, ⟨H2, H3⟩, -⟩
      isplitl [HO H2]; · isplitl [HO] <;> iassumption
      isplitl [H1] <;> iassumption
    · iintro ⟨⟨HO, H2⟩, H1, H3⟩
      isplitl [HO]; · iexact HO
      isplitl [H2 H1]; · isplitl [H2]; · iexact H2
                         iexact H1
      isplitl [H3]; · iexact H3
      iempintro

/-! ## The phases -/

section Tokens
variable (F) (c : Dev nD)
/-- The tokens of chunk `k`'s first sending, and of its second; where its cells stand; and what its wait takes. -/
def tok1 (k : Fin 17) : sProp 𝕄 := iprop(dutyTok ER (xcell 0 c k) 0 false ∗ dutyTok ER (xcell 1 (yp c) k) 0 false)
def tok2 (k : Fin 17) : sProp 𝕄 := iprop(dutyTok ER (xcell 2 c k) 0 false ∗ dutyTok ER (xcell 3 (xn c) k) 0 false)
def pos (a : Fin 4) (r : ℕ) (k : Fin 17) : sProp 𝕄 := atPos ER (xcell a c k) r ∅ 0
def due (a : Fin 4) (k : Fin 17) : sProp 𝕄 := cred (tallyAt (xcell a c k) () (NC k))
end Tokens

section Pieces
variable (X : Dev nD → S16384x2048.Idx → Elt F .f32) (c : Dev nD)
def gotB (k : Fin 17) : sProp 𝕄 := iprop(oLoc c ↦[sB c k]{fullShare} outAt X c)
def gotC (k : Fin 17) : sProp 𝕄 := iprop(oLoc c ↦[sC c k]{fullShare} outAt X c)
end Pieces

/-- All chunks staged, the first four kept ones read. -/
theorem run_fill :
    Runs X K c (fillOps c)
      iprop((bigSep Finset.univ fun k => iprop(argSent X c k ∗ stageAny c k ∗ semVal (stageCell c k) 0))
        ∗ bigSep Finset.univ (fresh X c) ∗ bigSep Finset.univ (slotFree (F := F) c))
      iprop(bigSep Finset.univ (staging X c) ∗ kept X c 0) := by
  have h1 : Runs X K c (Cert.Transpose.loop 17 fun k => [opStage c k])
      iprop((BI.emp : sProp 𝕄) ∗ bigSep Finset.univ fun k => iprop(argSent X c k ∗ stageAny c k ∗ semVal (stageCell c k) 0)) iprop((BI.emp : sProp 𝕄) ∗ bigSep Finset.univ (staging X c)) :=
    Runs.loop (T := fun _ => (BI.emp : sProp 𝕄)) fun k => (run_stage k).within (BI.emp : sProp 𝕄) (by iintro ⟨-, H⟩; isplitl [H]; iexact H; iempintro)
      (by iintro ⟨H, -⟩; isplitr; iempintro; iexact H)
  have h2 : Runs X K c (Cert.Transpose.loop 4 fun j => [opRead c ⟨j.val, by omega⟩])
      iprop((BI.emp : sProp 𝕄) ∗ bigSep Finset.univ fun j : Fin 4 => iprop(fresh X c ⟨j.val + 0, by omega⟩ ∗ slotFree c j))
      iprop((BI.emp : sProp 𝕄) ∗ bigSep Finset.univ fun j : Fin 4 => reading X c ⟨j.val + 0, by omega⟩) := by
    refine Runs.loop (T := fun _ => (BI.emp : sProp 𝕄)) fun j => ?_
    have hj : slot ⟨j.val, by omega⟩ = j := Fin.ext (Nat.mod_eq_of_lt j.isLt)
    have hr := run_read (X := X) (K := K) (c := c) ⟨j.val, by omega⟩
    rw [hj] at hr
    unfold fresh slotFree reading
    rw [show slot ⟨j.val + 0, by omega⟩ = j from hj]
    refine hr.within iprop(outKept c ⟨j.val, by omega⟩ ∗ semVal (writeCell c j) 0) ?_ ?_
    · iintro ⟨-, ⟨H1, H2⟩, H3, H4, H5⟩
      isplitl [H1 H3 H4]
      · isplitl [H1]; · iexact H1
        isplitl [H3] <;> iassumption
      isplitl [H2] <;> iassumption
    · iintro ⟨H1, H2, H3⟩
      isplitr; · iempintro
      isplitl [H1]; · iexact H1
      isplitl [H2] <;> iassumption
  have e : bigSep Finset.univ (fresh X c) = iprop((bigSep Finset.univ fun j : Fin 4 => fresh X c ⟨j.val + 0, by omega⟩) ∗ bigSep (rangeSet 16 4 16) (fresh X c)) := by
    rw [← rangeSet_univ, bigSep_rangeSet_split (a := 0) (b := 0 + 4) (d := 16) (by omega) (by omega), bigSep_four 0 (by omega)]
  unfold fillOps
  refine (h1.within iprop(bigSep Finset.univ (fresh X c) ∗ bigSep Finset.univ (slotFree (F := F) c)) ?_ (Entails.refl _)).append
    (h2.within iprop(bigSep Finset.univ (staging X c) ∗ bigSep (rangeSet 16 4 16) (fresh X c)) ?_ ?_)
  · iintro ⟨H1, H2⟩
    isplitl [H1]; · isplitr; · iempintro
                    iexact H1
    iexact H2
  · rw [e, bigSep_sep']
    iintro ⟨⟨-, H1⟩, ⟨H2, H3⟩, H4⟩
    isplitl [H2 H4]
    · isplitr; · iempintro
      isplitl [H2] <;> iassumption
    isplitl [H1] <;> iassumption
  · unfold kept
    rw [bigSep_four 0 (by omega), bigSep_rangeSet_empty (lo := 0) (hi := 0) le_rfl]
    iintro ⟨⟨-, H1⟩, H2, H3⟩
    isplitl [H2]; · iexact H2
    isplitr; · iempintro
    isplitl [H1] <;> iassumption

/-- All chunks sent to the column partner. -/
theorem run_sends :
    Runs X K c (sendOps c)
      iprop(owing c (O₂ c) ∗ bigSep Finset.univ (staging X c) ∗ yPlaces (yp c) ∗ bigSep Finset.univ (tok1 F c))
      iprop(owing c (owe 3 (xn c) 0) ∗ bigSep Finset.univ (fun k => iprop(argSent X c k ∗ semVal (stageCell c k) 0)) ∗ bigSep Finset.univ (due F c 0)) := by
  have h : Runs X K c (sendOps c)
      iprop(owing c (owe 3 (xn c) 0 + owe 1 (yp c) 0)
        ∗ bigSep Finset.univ fun k => iprop(staging X c k ∗ (∃ f, oLoc (yp c) ↦[sB (yp c) k]{fullShare} f) ∗ tok1 F c k))
      iprop(owing c (owe 3 (xn c) 0 + owe 1 (yp c) 17) ∗ bigSep Finset.univ fun k => iprop((argSent X c k ∗ semVal (stageCell c k) 0) ∗ due F c 0 k)) := by
    refine Runs.loop (T := fun n => owing c (owe 3 (xn c) 0 + owe 1 (yp c) n)) fun k => ?_
    have hO : Above 0 (owe 3 (xn c) 0 + owe 1 (yp c) k.val) := above_add (above_owe (by decide) _ _) (above_owe (by decide) _ _)
    unfold tok1 due
    refine ((run_staged k hO).within iprop((∃ f, oLoc (yp c) ↦[sB (yp c) k]{fullShare} f)
        ∗ (dutyTok ER (xcell 0 c k) 0 false ∗ dutyTok ER (xcell 1 (yp c) k) 0 false)) BI.sep_assoc' (Entails.refl _)).cons
      ((run_send1 k (owe 3 (xn c) 0 + owe 1 (yp c) (k.val + 1))).within iprop(argSent X c k ∗ semVal (stageCell c k) 0) ?_ ?_)
    · rw [owe_head, add_assoc]
      iintro ⟨⟨HO, ⟨H1, H2⟩, H3⟩, H4, H5, H6⟩
      isplitl [HO H1 H4 H5 H6]
      · isplitl [HO]; · iexact HO
        isplitl [H1]; · iexact H1
        isplitl [H4]; · iexact H4
        isplitl [H5] <;> iassumption
      isplitl [H2] <;> iassumption
    · iintro ⟨⟨HO, H1⟩, H2⟩
      isplitl [HO]; · iexact HO
      isplitl [H2] <;> iassumption
  rw [owe_end, add_zero, bigSep_sep', bigSep_sep', bigSep_sep'] at h
  exact h

/-- All chunks received from the column partner and sent to the row partner, the kept ones written in between. -/
theorem run_pass :
    Runs X K c (passOps c)
      iprop(owing c (owe 3 (xn c) 0) ∗ kept X c 0 ∗ (bigSep Finset.univ (due F c 1) ∗ bigSep Finset.univ (pos F c 1 0)) ∗ xPlaces (xn c)
        ∗ bigSep Finset.univ (tok2 F c))
      iprop(owing c 0 ∗ kept X c 16 ∗ bigSep Finset.univ (pos F c 1 1) ∗ bigSep Finset.univ (due F c 2)) := by
  have h : Runs X K c (passOps c)
      iprop((owing c (owe 3 (xn c) 0) ∗ kept X c (0 - 1))
        ∗ bigSep Finset.univ fun k => iprop((due F c 1 k ∗ pos F c 1 0 k) ∗ (∃ f, oLoc (xn c) ↦[sC (xn c) k]{fullShare} f) ∗ tok2 F c k))
      iprop((owing c (owe 3 (xn c) 17) ∗ kept X c (17 - 1)) ∗ bigSep Finset.univ fun k => iprop(pos F c 1 1 k ∗ due F c 2 k)) := by
    refine Runs.loop (T := fun n => iprop(owing c (owe 3 (xn c) n) ∗ kept X c (n - 1))) fun k => ?_
    unfold tok2 due pos
    refine Runs.cons ((run_recv1 k (above_owe (a := 3) (by decide) (xn c) k.val)).within iprop(kept X c (k.val - 1)
        ∗ (∃ f, oLoc (xn c) ↦[sC (xn c) k]{fullShare} f) ∗ (dutyTok ER (xcell 2 c k) 0 false ∗ dutyTok ER (xcell 3 (xn c) k) 0 false)) ?_ (Entails.refl _))
      (Runs.cons ((run_send2 k (owe 3 (xn c) (k.val + 1))).within iprop(atPos ER (xcell 1 c k) 1 ∅ 0 ∗ kept X c (k.val - 1)) ?_ (Entails.refl _)) ?_)
    · iintro ⟨⟨HO, H1⟩, ⟨H2, H3⟩, H4⟩
      isplitl [HO H2 H3]
      · isplitl [HO]; · iexact HO
        isplitl [H2] <;> iassumption
      isplitl [H1] <;> iassumption
    · rw [owe_head 3 (xn c) k]
      iintro ⟨⟨HO, H1, H2⟩, H3, H4, H5, H6⟩
      isplitl [HO H1 H4 H5 H6]
      · isplitl [HO]; · iexact HO
        isplitl [H1]; · iexact H1
        isplitl [H4]; · iexact H4
        isplitl [H5] <;> iassumption
      isplitl [H2] <;> iassumption
    · have hO : Above 0 (owe 3 (xn c) (k.val + 1)) := above_owe (by decide) _ _
      have hk : Runs X K c (keepBefore c k) iprop(owing c (owe 3 (xn c) (k.val + 1)) ∗ kept X c (k.val - 1))
          iprop(owing c (owe 3 (xn c) (k.val + 1)) ∗ kept X c (k.val + 1 - 1)) := by
        unfold keepBefore
        by_cases hp : 0 < k.val
        · rw [dif_pos hp]
          have := run_keep (X := X) (K := K) (c := c) ⟨k.val - 1, by omega⟩ hO
          rw [show (⟨k.val - 1, by omega⟩ : Fin 16).val + 1 = k.val + 1 - 1 by show k.val - 1 + 1 = _; omega] at this
          exact this
        · rw [dif_neg hp, show k.val + 1 - 1 = k.val - 1 by omega]
          exact Runs.nil (Entails.refl _)
      refine hk.within iprop(atPos ER (xcell 1 c k) 1 ∅ 0 ∗ cred (tallyAt (xcell 2 c k) () (NC k))) ?_ (Entails.refl _)
      iintro ⟨⟨HO, H1⟩, H2, H3⟩
      isplitl [HO H3]; · isplitl [HO] <;> iassumption
      isplitl [H2] <;> iassumption
  rw [owe_end, bigSep_sep', bigSep_sep', bigSep_sep', bigSep_sep'] at h
  exact h.conseq BI.sep_assoc' BI.sep_assoc

/-- All sent chunks gone, the last kept ones written. -/
theorem run_drain :
    Runs X K c (drainOps c)
      iprop(owing c 0 ∗ kept X c 16 ∗ bigSep Finset.univ (due F c 0) ∗ bigSep Finset.univ (pos F c 0 0))
      iprop(owing c 0 ∗ (bigSep Finset.univ (finished X c) ∗ bigSep Finset.univ (slotFree (F := F) c))
        ∗ bigSep Finset.univ (stageAny (F := F) c) ∗ bigSep Finset.univ (pos F c 0 1)) := by
  have h1 : Runs X K c (Cert.Transpose.loop 17 fun k => [opSent1 c k])
      iprop(owing c 0 ∗ bigSep Finset.univ fun k => iprop(due F c 0 k ∗ pos F c 0 0 k))
      iprop(owing c 0 ∗ bigSep Finset.univ fun k => iprop(stageAny c k ∗ pos F c 0 1 k)) :=
    Runs.loop (T := fun _ => owing c 0) fun k => run_sent1 k (above_zero 0)
  have h2 : Runs X K c (Cert.Transpose.loop 4 fun j => [opWritten c ⟨j.val + 12, by omega⟩])
      iprop(owing c 0 ∗ bigSep Finset.univ fun j : Fin 4 => writing X c ⟨j.val + 12, by omega⟩)
      iprop(owing c 0 ∗ bigSep Finset.univ fun j : Fin 4 => iprop(finished X c ⟨j.val + 12, by omega⟩ ∗ slotFree c j)) := by
    refine Runs.loop (T := fun _ => owing c 0) fun j => ?_
    have hj : slot ⟨j.val + 12, by omega⟩ = j := Fin.ext (by show (j.val + 12) % 4 = j.val; omega)
    have hw := run_written (X := X) (K := K) (c := c) ⟨j.val + 12, by omega⟩ (above_zero 0)
    rw [hj] at hw
    unfold writing finished slotFree
    rw [hj]
    refine hw.within iprop(argKept X c ⟨j.val + 12, by omega⟩ ∗ semVal (readCell c j) 0) ?_ ?_
    · iintro ⟨HO, H1, H2, H3⟩
      isplitl [HO H2]; · isplitl [HO] <;> iassumption
      isplitl [H1] <;> iassumption
    · iintro ⟨⟨HO, ⟨H1, H2⟩, H3⟩, H4, H5⟩
      isplitl [HO]; · iexact HO
      isplitl [H4 H1]; · isplitl [H4] <;> iassumption
      isplitl [H2]; · iexact H2
      isplitl [H5] <;> iassumption
  have e : bigSep Finset.univ (finished X c)
      = iprop(bigSep (rangeSet 16 0 12) (stepped X c) ∗ bigSep Finset.univ fun j : Fin 4 => finished X c ⟨j.val + 12, by omega⟩) := by
    rw [← rangeSet_univ, bigSep_rangeSet_split (a := 0) (b := 12) (d := 12 + 4) (by omega) (by omega), bigSep_four 12 (by omega)]
    exact congrArg (fun Y => iprop(Y ∗ _)) (bigSep_congr fun l hl => ((if_pos ((mem_rangeSet 0 12 l).mp hl).2 : stepped X c l = finished X c l)).symm)
  have e' : kept X c 16 ⊢ iprop(bigSep (rangeSet 16 0 12) (stepped X c) ∗ bigSep Finset.univ fun j : Fin 4 => writing X c ⟨j.val + 12, by omega⟩) := by
    unfold kept
    rw [bigSep_rangeSet_split (a := 0) (b := 12) (d := 12 + 4) (by omega) (by omega), bigSep_four 12 (by omega)]
    rw [bigSep_congr (s := Finset.univ) (fun (j : Fin 4) _ => (if_neg (by show ¬(j.val + 12 < 12); omega) :
      stepped X c ⟨j.val + 12, by omega⟩ = writing X c ⟨j.val + 12, by omega⟩))]
    iintro ⟨H, -⟩
    iexact H
  rw [bigSep_sep', bigSep_sep'] at h1
  rw [bigSep_sep'] at h2
  unfold drainOps
  refine (h1.within (kept X c 16) ?_ (Entails.refl _)).append (h2.within iprop(bigSep (rangeSet 16 0 12) (stepped X c)
    ∗ bigSep Finset.univ (stageAny (F := F) c) ∗ bigSep Finset.univ (pos F c 0 1)) ?_ ?_)
  · iintro ⟨HO, H1, H2⟩
    isplitr [H1]; · isplitl [HO] <;> iassumption
    iexact H1
  · iintro ⟨⟨HO, H1, H2⟩, H3⟩
    ihave H3 := e' $$ H3
    icases H3 with ⟨H3, H4⟩
    isplitl [HO H4]; · isplitl [HO] <;> iassumption
    isplitl [H3]; · iexact H3
    isplitl [H1] <;> iassumption
  · rw [e]
    iintro ⟨⟨HO, H1, H2⟩, H3, H4, H5⟩
    isplitl [HO]; · iexact HO
    isplitl [H1 H2 H3]
    · isplitr [H2]
      · isplitl [H3] <;> iassumption
      · iexact H2
    isplitl [H4] <;> iassumption

/-- All chunks received from the row partner, all passed on. -/
theorem run_last :
    Runs X K c (lastOps c)
      iprop(owing c 0 ∗ (bigSep Finset.univ (due F c 3) ∗ bigSep Finset.univ (pos F c 3 0)) ∗ bigSep Finset.univ (due F c 2) ∗ bigSep Finset.univ (pos F c 2 0))
      iprop(owing c 0 ∗ (bigSep Finset.univ (gotC X c) ∗ bigSep Finset.univ (pos F c 3 1)) ∗ bigSep Finset.univ (gotB X c) ∗ bigSep Finset.univ (pos F c 2 1)) := by
  have h : Runs X K c (lastOps c)
      iprop(owing c 0 ∗ bigSep Finset.univ fun k => iprop((due F c 3 k ∗ pos F c 3 0 k) ∗ (due F c 2 k ∗ pos F c 2 0 k)))
      iprop(owing c 0 ∗ bigSep Finset.univ fun k => iprop((gotC X c k ∗ pos F c 3 1 k) ∗ (gotB X c k ∗ pos F c 2 1 k))) := by
    refine Runs.loop (T := fun _ => owing c 0) fun k => ?_
    refine Runs.cons ((run_recv2 k (above_zero 3)).within iprop(due F c 2 k ∗ pos F c 2 0 k) BI.sep_assoc' (Entails.refl _))
      ((run_sent2 k (above_zero 0)).within iprop(gotC X c k ∗ pos F c 3 1 k) ?_ ?_)
    · iintro ⟨⟨HO, H1⟩, H2⟩
      isplitl [HO H2]; · isplitl [HO]; · iexact HO
                         iexact H2
      iexact H1
    · iintro ⟨⟨HO, H1⟩, H2⟩
      isplitl [HO]; · iexact HO
      isplitl [H2]; · iexact H2
      iexact H1
  simp only [bigSep_sep'] at h
  exact h

/-! ## The whole body -/

/-- What the body starts from, and what it leaves. -/
def begun (X : Dev nD → S16384x2048.Idx → Elt F .f32) (c : Dev nD) : sProp 𝕄 :=
  iprop(((bigSep Finset.univ fun k => iprop(argSent X c k ∗ stageAny c k ∗ semVal (stageCell c k) 0))
      ∗ bigSep Finset.univ (fresh X c) ∗ bigSep Finset.univ (slotFree (F := F) c))
    ∗ ((yPlaces c ∗ xPlaces c) ∗ (dutyTok ER (barCell (yp c)) 0 false ∗ dutyTok ER (barCell (xn c)) 0 true)
        ∗ cred (tallyAt (barCell c) () 2) ∗ atPos ER (barCell c) 0 ∅ 0)
    ∗ bigSep Finset.univ (tok1 F c) ∗ bigSep Finset.univ (tok2 F c)
    ∗ (bigSep Finset.univ (due F c 1) ∗ bigSep Finset.univ (due F c 3))
    ∗ bigSep Finset.univ (pos F c 0 0) ∗ bigSep Finset.univ (pos F c 1 0) ∗ bigSep Finset.univ (pos F c 2 0) ∗ bigSep Finset.univ (pos F c 3 0))

def ended (X : Dev nD → S16384x2048.Idx → Elt F .f32) (c : Dev nD) : sProp 𝕄 :=
  iprop((bigSep Finset.univ fun k => iprop(argSent X c k ∗ semVal (stageCell c k) 0)) ∗ bigSep Finset.univ (stageAny (F := F) c)
    ∗ bigSep Finset.univ (finished X c) ∗ bigSep Finset.univ (slotFree (F := F) c)
    ∗ bigSep Finset.univ (gotB X c) ∗ bigSep Finset.univ (gotC X c)
    ∗ atPos ER (barCell c) 1 ∅ 0
    ∗ bigSep Finset.univ (pos F c 0 1) ∗ bigSep Finset.univ (pos F c 1 1) ∗ bigSep Finset.univ (pos F c 2 1) ∗ bigSep Finset.univ (pos F c 3 1))

theorem run_body : Runs X K c (bodyOps c) iprop(owing c (O₀ c) ∗ begun X c) iprop(owing c 0 ∗ ended X c) := by
  intro Q k
  unfold bodyOps begun ended
  simp only [seq_append]
  iintro ⟨#HI, HO, Hfill, ⟨Hpl, Htb, Hcb, Hab⟩, Ht1, Ht2, ⟨Hd1, Hd3⟩, Hp0, Hp1, Hp2, Hp3⟩ Hk
  iapply (run_fill (X := X) (K := K) (c := c) Q _) $$ [Hfill]
  · isplitr; · iexact HI
    iexact Hfill
  iintro ⟨Hstg, Hkept⟩
  iapply (run_meet (X := X) (K := K) (c := c) Q _) $$ [HO Hpl Htb Hcb Hab]
  · isplitr; · iexact HI
    isplitl [HO]; · iexact HO
    isplitl [Hpl]; · iexact Hpl
    isplitl [Htb]; · iexact Htb
    isplitl [Hcb] <;> iassumption
  iintro ⟨HO, ⟨HyP, HxP⟩, Hab⟩
  iapply (run_sends (X := X) (K := K) (c := c) Q _) $$ [HO Hstg HyP Ht1]
  · isplitr; · iexact HI
    isplitl [HO]; · iexact HO
    isplitl [Hstg]; · iexact Hstg
    isplitl [HyP] <;> iassumption
  iintro ⟨HO, Harg, Hd0⟩
  iapply (run_pass (X := X) (K := K) (c := c) Q _) $$ [HO Hkept Hd1 Hp1 HxP Ht2]
  · isplitr; · iexact HI
    isplitl [HO]; · iexact HO
    isplitl [Hkept]; · iexact Hkept
    isplitl [Hd1 Hp1]; · isplitl [Hd1] <;> iassumption
    isplitl [HxP] <;> iassumption
  iintro ⟨HO, Hkept, Hp1, Hd2⟩
  iapply (run_drain (X := X) (K := K) (c := c) Q _) $$ [HO Hkept Hd0 Hp0]
  · isplitr; · iexact HI
    isplitl [HO]; · iexact HO
    isplitl [Hkept]; · iexact Hkept
    isplitl [Hd0] <;> iassumption
  iintro ⟨HO, ⟨Hfin, Hsl⟩, Hst, Hp0⟩
  iapply (run_last (X := X) (K := K) (c := c) Q _) $$ [HO Hd3 Hp3 Hd2 Hp2]
  · isplitr; · iexact HI
    isplitl [HO]; · iexact HO
    isplitl [Hd3 Hp3]; · isplitl [Hd3] <;> iassumption
    isplitl [Hd2] <;> iassumption
  iintro ⟨HO, ⟨HC, Hp3⟩, HB, Hp2⟩
  iapply Hk
  isplitl [HO]; · iexact HO
  isplitl [Harg]; · iexact Harg
  isplitl [Hst]; · iexact Hst
  isplitl [Hfin]; · iexact Hfin
  isplitl [Hsl]; · iexact Hsl
  isplitl [HB]; · iexact HB
  isplitl [HC]; · iexact HC
  isplitl [Hab]; · iexact Hab
  isplitl [Hp0]; · iexact Hp0
  isplitl [Hp1]; · iexact Hp1
  isplitl [Hp2]; · iexact Hp2
  iexact Hp3

end Cert.Transpose
-- ==== Proof.Pieces.lean ====
/-
The buffers cut into the pieces the body works with, and put together again.
-/
module

public import proofs.«01_k».proof.Proof.Body

@[expose] public section

noncomputable section

namespace Cert.Transpose

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring Idealize.ShloMosaic.Transfers

variable {F : FTy → Type} [FloatOps F]

local notation "𝕄" => MT nD τ sig Unit (Elt F) ℕ UU ℕ

variable (X : Dev nD → S16384x2048.Idx → Elt F .f32) (c : Dev nD)

/-- The argument's entries no copy reads. -/
def argRest : sProp 𝕄 := iprop(aLoc c ↦[Finset.univ \ Finset.univ.biUnion (argSet c)]{fullShare} X c)

theorem arg_pieces : (aLoc c ↦[Finset.univ.biUnion (argSet c)]{fullShare} X c : sProp 𝕄)
    = iprop(bigSep Finset.univ (argSent X c) ∗ bigSep Finset.univ (argKept X c)) :=
  (pointsTo_sub_blocks (ℓ := aLoc c) (argSet c) (argSet_disjoint c) _ rfl (X c)).trans (BI.bigSep_univ_sum _)

theorem arg_split : (aLoc c ↦{fullShare} X c : sProp 𝕄)
    ⊢ iprop((bigSep Finset.univ (argSent X c) ∗ bigSep Finset.univ (argKept X c)) ∗ argRest X c) := by
  rw [← arg_pieces]
  exact (pointsTo_split_subset (ℓ := aLoc c) (q := fullShare) (f := X c) (Finset.subset_univ (Finset.univ.biUnion (argSet c)))).1

theorem arg_join : iprop((bigSep Finset.univ (argSent X c) ∗ bigSep Finset.univ (argKept X c)) ∗ argRest X c)
    ⊢ (aLoc c ↦{fullShare} X c : sProp 𝕄) := by
  rw [← arg_pieces]
  exact (pointsTo_split_subset (ℓ := aLoc c) (q := fullShare) (f := X c) (Finset.subset_univ (Finset.univ.biUnion (argSet c)))).2

omit [FloatOps F] in
/-- The result in its pieces. -/
theorem out_pieces (f : S32768x1024.Idx → Elt F .f32) : (oLoc c ↦{fullShare} f : sProp 𝕄)
    = iprop((bigSep Finset.univ fun k => iprop(oLoc c ↦[sB c k]{fullShare} f)) ∗ (bigSep Finset.univ fun k => iprop(oLoc c ↦[sC c k]{fullShare} f))
        ∗ bigSep Finset.univ fun l => iprop(oLoc c ↦[sO c l]{fullShare} f)) :=
  (pointsTo_blocks (ℓ := oLoc c) (outSet c) (outSet_disjoint c) (outSet_cover c) f).trans
    ((BI.bigSep_univ_sum _).trans (congrArg (fun Y => iprop(_ ∗ Y)) (BI.bigSep_univ_sum _)))

omit [FloatOps F] in
theorem out_split (f : S32768x1024.Idx → Elt F .f32) : (oLoc c ↦{fullShare} f : sProp 𝕄)
    ⊢ iprop(yPlaces c ∗ xPlaces c ∗ bigSep Finset.univ (outKept (F := F) c)) := by
  rw [out_pieces]
  have h (S : Finset S32768x1024.Idx) : (oLoc c ↦[S]{fullShare} f : sProp 𝕄) ⊢ iprop(∃ g, oLoc c ↦[S]{fullShare} g) := by
    iintro H; iexists f; iexact H
  exact sep_mono (bigSep_mono fun k _ => h _) (sep_mono (bigSep_mono fun k _ => h _) (bigSep_mono fun l _ => h _))

theorem out_join : iprop(bigSep Finset.univ (gotB X c) ∗ bigSep Finset.univ (gotC X c) ∗ bigSep Finset.univ (outDone X c))
    ⊢ (oLoc c ↦{fullShare} outAt X c : sProp 𝕄) := Entails.of_eq (out_pieces c (outAt X c)).symm

omit [FloatOps F] in
theorem stage_split : (iprop(∃ f, sLoc c ↦{fullShare} f) : sProp 𝕄) ⊢ bigSep Finset.univ (stageAny (F := F) c) := by
  iintro ⟨%f, H⟩
  iapply ((Entails.of_eq (pointsTo_blocks (ℓ := sLoc c) sS stSet_disjoint stSet_cover f)).trans
    (bigSep_mono fun k _ => show _ ⊢ stageAny c k from by unfold stageAny; iintro H; iexists f; iexact H)) $$ H

theorem stage_join (f₀ : S8192x1024.Idx → Elt F .f32) : bigSep Finset.univ (stageAny (F := F) c) ⊢ (iprop(∃ f, sLoc c ↦{fullShare} f) : sProp 𝕄) :=
  pointsTo_blocks_join_exists (ℓ := sLoc c) sS stSet_disjoint stSet_cover f₀

omit [FloatOps F] in
theorem slots_split : (iprop(∃ f, tLoc c ↦{fullShare} f) : sProp 𝕄) ⊢ bigSep Finset.univ (slotAny (F := F) c) := by
  iintro ⟨%f, H⟩
  iapply ((Entails.of_eq (pointsTo_blocks (ℓ := tLoc c) sT lcSet_disjoint lcSet_cover f)).trans
    (bigSep_mono fun k _ => show _ ⊢ slotAny c k from by unfold slotAny; iintro H; iexists f; iexact H)) $$ H

theorem slots_join (f₀ : S4x1024x1024.Idx → Elt F .f32) : bigSep Finset.univ (slotAny (F := F) c) ⊢ (iprop(∃ f, tLoc c ↦{fullShare} f) : sProp 𝕄) :=
  pointsTo_blocks_join_exists (ℓ := tLoc c) sT lcSet_disjoint lcSet_cover f₀

end Cert.Transpose
-- ==== Proof.Deal.lean ====
/-
The start: the cells' invariants made out of the semaphores at zero, and every device dealt the rights it uses.
-/
module

public import proofs.«01_k».proof.Proof.Body

@[expose] public section

noncomputable section

namespace Cert.Transpose

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring Idealize.ShloMosaic.Pipeline

variable {F : FTy → Type} [FloatOps F]

local notation "𝕄" => MT nD τ sig Unit (Elt F) ℕ UU ℕ

/-! ## Families over a device's cells -/

section Families
omit [FloatOps F]

theorem bigSep_unit (Φ : Unit → sProp 𝕄) : bigSep Finset.univ Φ = Φ () := bigSep_univ_eq_bigSepL [()] (by decide) (by decide) Φ

theorem bigSep_kinds (Φ : Fin 4 × Fin 17 → sProp 𝕄) : bigSep Finset.univ Φ
    = iprop((bigSep Finset.univ fun k => Φ (0, k)) ∗ (bigSep Finset.univ fun k => Φ (1, k)) ∗ (bigSep Finset.univ fun k => Φ (2, k))
        ∗ bigSep Finset.univ fun k => Φ (3, k)) := by
  rw [bigSep_univ_prod, bigSep_univ_eq_bigSepL [0, 1, 2, 3] (by decide) (by decide)]
  rfl

/-- A device's scheduled cells are its barrier cell and the four kinds of exchange cells. -/
theorem bigSep_cells (Φ : CIx → sProp 𝕄) : bigSep Finset.univ Φ
    = iprop(Φ (.inl ()) ∗ (bigSep Finset.univ fun k => Φ (.inr (0, k))) ∗ (bigSep Finset.univ fun k => Φ (.inr (1, k)))
        ∗ (bigSep Finset.univ fun k => Φ (.inr (2, k))) ∗ bigSep Finset.univ fun k => Φ (.inr (3, k))) := by
  have h := BI.bigSep_univ_sum Φ
  rw [bigSep_unit, bigSep_kinds] at h
  exact h

theorem bigSep_with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Families

theorem csem_injective : Function.Injective csem := by
  rintro (⟨⟩ | ⟨a, k⟩) (⟨⟩ | ⟨a', k'⟩) h
  · rfl
  · cases h
  · cases h
  · obtain ⟨rfl, rfl⟩ := xsem_inj h; rfl

theorem cell_injective : Function.Injective (cell : Dev nD × CIx → GSem nD τ sig) := by
  rintro ⟨c, i⟩ ⟨c', i'⟩ h
  have h1 : c = c' := congrArg (fun g : GSem nD τ sig => g.1.1) h
  have h2 : i = i' := csem_injective (congrArg Prod.snd h)
  rw [h1, h2]

/-! ## The kernel's own semaphores -/

abbrev OIx : Type := Fin 17 ⊕ (Fin 4 ⊕ (Fin 4 ⊕ (Fin 4 × Fin 17)))
def osem : OIx → SemLoc sig
  | .inl k => .dma (at17 cc0_scratch2 k)
  | .inr (.inl j) => .dma (at4 cc0_scratch3 j)
  | .inr (.inr (.inl j)) => .dma (at4 cc0_scratch4 j)
  | .inr (.inr (.inr p)) => xsem p.1 p.2

theorem ownSemFacts : OwnSemFacts cfg0.spec osem := by decide +kernel

section Cells
variable (F)

/-- The semaphores of the copies inside a device, at zero. -/
def localSems (c : Dev nD) : sProp 𝕄 :=
  iprop((bigSep Finset.univ fun k => semVal (stageCell c k) 0) ∗ (bigSep Finset.univ fun j => semVal (readCell c j) 0)
    ∗ bigSep Finset.univ fun j => semVal (writeCell c j) 0)

end Cells

section Sems
omit [FloatOps F]

theorem ownSems0_split (c : Dev nD) : (ownSems0 osem c : sProp 𝕄)
    = iprop((bigSep Finset.univ fun k => semVal (stageCell c k) 0) ∗ (bigSep Finset.univ fun j => semVal (readCell c j) 0)
    ∗ (bigSep Finset.univ fun j => semVal (writeCell c j) 0) ∗ bigSep Finset.univ fun p : Fin 4 × Fin 17 => semVal (xcell p.1 c p.2) 0) := by
  unfold ownSems0
  exact (BI.bigSep_univ_sum _).trans (congrArg (fun Y => iprop(_ ∗ Y)) ((BI.bigSep_univ_sum _).trans (congrArg (fun Y => iprop(_ ∗ Y)) (BI.bigSep_univ_sum _))))

theorem unscopedSems0_bar (c : Dev nD) : (unscopedSems0 c : sProp 𝕄) = semVal (barCell c) 0 := by
  unfold unscopedSems0; rw [bigSep_eq_bigSepL_of_eq [SemLoc.reg barS] (by decide +kernel) (by decide)]; rfl

/-- All semaphores of a device at zero are those of its local copies and its scheduled cells. -/
theorem sems_eq (c : Dev nD) : iprop(ownSems0 osem c ∗ unscopedSems0 c)
    ⊢ (iprop(localSems F c ∗ bigSep Finset.univ fun i : CIx => semVal (cell (c, i)) 0) : sProp 𝕄) := by
  rw [ownSems0_split, unscopedSems0_bar]
  have h : (bigSep Finset.univ fun i : CIx => (semVal (cell (c, i)) 0 : sProp 𝕄))
      = iprop(semVal (barCell c) 0 ∗ bigSep Finset.univ fun p : Fin 4 × Fin 17 => semVal (xcell p.1 c p.2) 0) :=
    (BI.bigSep_univ_sum _).trans (congrArg (fun Y => iprop(Y ∗ _)) (bigSep_unit _))
  rw [h]
  unfold localSems
  iintro ⟨⟨H1, H2, H3, H4⟩, HB⟩
  isplitl [H1 H2 H3]
  · isplitl [H1]; · iexact H1
    isplitl [H2] <;> iassumption
  isplitl [HB] <;> iassumption

end Sems

/-! ## The rights to pay -/

abbrev TIx : Type := Bool ⊕ (Fin 4 × Fin 17)
def tokOf (p : Dev nD × TIx) : GSem nD τ sig × ℕ × Bool := match p.2 with
  | .inl b => (barCell p.1, 0, b)
  | .inr q => (xcell q.1 p.1 q.2, 0, false)

theorem tokOf_injective : Function.Injective tokOf := by
  rintro ⟨c, b | q⟩ ⟨c', b' | q'⟩ h
  · have h1 : c = c' := congrArg (fun t : GSem nD τ sig × ℕ × Bool => t.1.1.1) h
    have h2 : b = b' := congrArg (fun t : GSem nD τ sig × ℕ × Bool => t.2.2) h
    rw [h1, h2]
  · exact absurd (congrArg Prod.fst h).symm (xcell_ne_bar _ _ _ _)
  · exact absurd (congrArg Prod.fst h) (xcell_ne_bar _ _ _ _)
  · obtain ⟨h1, h2, h3⟩ := xcell_inj (congrArg Prod.fst h)
    exact Prod.ext h2 (congrArg Sum.inr (Prod.ext h1 h3))

def allCells : Finset (GSem nD τ sig) := Finset.univ.map ⟨cell, cell_injective⟩
def allToks : Finset (GSem nD τ sig × ℕ × Bool) := Finset.univ.map ⟨tokOf, tokOf_injective⟩

def u₀ : UU := (initOf (cells cfgs cellOf_inj) (launchToks cfgs cellOf_inj), (initOf allCells allToks, 1))

section Deal
variable (F)

/-- The right to pay chunk `k`'s cell of kind `a`. -/
def tok (c : Dev nD) (a : Fin 4) (k : Fin 17) : sProp 𝕄 := dutyTok ER (xcell a c k) 0 false
/-- The rights to pay a device's own cells, as they are made; -/
def toks (c : Dev nD) : sProp 𝕄 :=
  iprop((dutyTok ER (barCell c) 0 false ∗ dutyTok ER (barCell c) 0 true) ∗ bigSep Finset.univ (tok F c 0) ∗ bigSep Finset.univ (tok F c 1)
    ∗ bigSep Finset.univ (tok F c 2) ∗ bigSep Finset.univ (tok F c 3))
/-- those that the device itself uses. -/
def payToks (c : Dev nD) : sProp 𝕄 :=
  iprop((dutyTok ER (barCell (yp c)) 0 false ∗ dutyTok ER (barCell (xn c)) 0 true) ∗ bigSep Finset.univ (tok1 F c) ∗ bigSep Finset.univ (tok2 F c))
/-- A device's places in its cells' rounds. -/
def poss (c : Dev nD) (r : ℕ) : sProp 𝕄 :=
  iprop(atPos ER (barCell c) r ∅ 0 ∗ bigSep Finset.univ (pos F c 0 r) ∗ bigSep Finset.univ (pos F c 1 r)
    ∗ bigSep Finset.univ (pos F c 2 r) ∗ bigSep Finset.univ (pos F c 3 r))

omit [FloatOps F] in
/-- The rights handed to the partners who use them. -/
theorem toks_around : (bigSep Finset.univ (toks F) : sProp 𝕄) ⊢ bigSep Finset.univ (payToks F) := by
  have h1 (c : Dev nD) : bigSep Finset.univ (tok1 F c) = iprop(bigSep Finset.univ (tok F c 0) ∗ bigSep Finset.univ (tok F (yp c) 1)) := bigSep_sep' _ _ _
  have h2 (c : Dev nD) : bigSep Finset.univ (tok2 F c) = iprop(bigSep Finset.univ (tok F c 2) ∗ bigSep Finset.univ (tok F (xn c) 3)) := bigSep_sep' _ _ _
  unfold toks payToks
  simp only [h1, h2, bigSep_sep']
  rw [bigSep_univ_equiv yEquiv (fun c : Dev nD => (dutyTok ER (barCell c) 0 false : sProp 𝕄)),
    bigSep_univ_equiv xEquiv (fun c : Dev nD => (dutyTok ER (barCell c) 0 true : sProp 𝕄)),
    bigSep_univ_equiv yEquiv (fun c : Dev nD => (bigSep Finset.univ (tok F c 1) : sProp 𝕄)),
    bigSep_univ_equiv xEquiv (fun c : Dev nD => (bigSep Finset.univ (tok F c 3) : sProp 𝕄))]
  iintro ⟨⟨H1, H2⟩, H3, H4, H5, H6⟩
  isplitl [H1 H2]
  · isplitl [H1]; · iexact H1
    iexact H2
  isplitl [H3 H4]
  · isplitl [H3]; · iexact H3
    iexact H4
  isplitl [H5]; · iexact H5
  iexact H6

end Deal

/-! ## The step from the launch's resources to the invariants -/

section Glob
variable (X : Dev nD → S16384x2048.Idx → Elt F .f32)

/-- What the ghost element gives a device; -/
def G (c : Dev nD) : sProp 𝕄 :=
  iprop((bigSep Finset.univ fun i : CIx => roundState ER (Rd X) (cell (c, i)) 0)
    ∗ (bigSep Finset.univ fun i : CIx => reached ER (cell (c, i)) 0) ∗ poss F c 0 ∗ toks F c)
/-- what a device starts with. -/
def G' (c : Dev nD) : sProp 𝕄 := iprop(∃ K, records X K ∗ poss F c 0 ∗ payToks F c ∗ localSems F c)

theorem fund_all : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun i : CIx => Φ (cell (c, i)) := by
    unfold allCells; rw [bigSep_map, bigSep_univ_prod]; rfl
  have hP : bigSep allCells (fun g => (atPos ER g 0 ∅ 0 : sProp 𝕄)) = bigSep Finset.univ fun c : Dev nD => poss F c 0 :=
    (hX _).trans (bigSep_congr fun c _ => bigSep_cells _)
  have hT : bigSep allToks (fun x => (dutyTok ER x.1 x.2.1 x.2.2 : sProp 𝕄)) = bigSep Finset.univ fun c : Dev nD => toks F c := by
    unfold allToks; rw [bigSep_map, bigSep_univ_prod]
    refine bigSep_congr fun c _ => (BI.bigSep_univ_sum _).trans ?_
    rw [bigSep_kinds, bigSep_univ_eq_bigSepL [false, true] (by decide) (by decide)]
    rfl
  iintro H
  imod (Rounds.fund ER (Rd X) allCells allToks) $$ H with ⟨Hst, Hr, Hat, Htok⟩
  imodintro
  ihave Hst' := (Entails.of_eq (hX fun g => roundState ER (Rd X) g 0)) $$ Hst
  ihave Hr' := (Entails.of_eq (hX fun g => reached ER g 0)) $$ Hr
  ihave Hat' := (Entails.of_eq hP) $$ Hat
  ihave Htok' := (Entails.of_eq hT) $$ Htok
  unfold G; simp only [bigSep_sep']
  isplitl [Hst']; · iexact Hst'
  isplitl [Hr']; · iexact Hr'
  isplitl [Hat'] <;> iassumption

/-- A device's cells get their invariants. -/
def made (c : Dev nD) : sProp 𝕄 :=
  iprop((bigSep Finset.univ fun i : CIx => iprop((∃ κ : ℕ, cellInv ER (Rd X) κ (cell (c, i))) ∗ reached ER (cell (c, i)) 0))
    ∗ poss F c 0 ∗ toks F c ∗ localSems F c)

theorem core_alloc (c : Dev nD) : iprop(ownSems0 osem c ∗ unscopedSems0 c ∗ G X c) ⊢ (|={Set.univ}=> made X c : sProp 𝕄) := by
  unfold G made
  iintro ⟨Hos, Hus, Hst, Hr, Hat, Htok⟩
  ihave Hv := (sems_eq (F := F) c) $$ [Hos Hus]
  · isplitl [Hos] <;> iassumption
  icases Hv with ⟨Hl, Hv⟩
  imod (show iprop((bigSep Finset.univ fun i : CIx => semVal (cell (c, i)) 0) ∗ bigSep Finset.univ fun i : CIx => roundState ER (Rd X) (cell (c, i)) 0)
      ⊢ (|={Set.univ}=> bigSep Finset.univ fun i : CIx => iprop(∃ κ : ℕ, cellInv ER (Rd X) κ (cell (c, i))) : sProp 𝕄) from by
        rw [← bigSep_sep']
        exact (bigSep_mono fun i _ => (Rounds.body_intro ER (Rd X) (cell (c, i))).trans inv_alloc).trans (bigSep_fupd _ _)) $$ [Hv Hst] with Hinv
  · isplitl [Hv] <;> iassumption
  imodintro
  isplitl [Hinv Hr]
  · rw [bigSep_sep']
    isplitl [Hinv] <;> iassumption
  isplitl [Hat]; · iexact Hat
  isplitl [Htok] <;> iassumption

theorem regroup : bigSep Finset.univ (made X) ⊢ (bigSep Finset.univ (G' X) : sProp 𝕄) := by
  have hI : (bigSep Finset.univ fun c : Dev nD => bigSep Finset.univ fun i : CIx =>
        iprop((∃ κ : ℕ, cellInv ER (Rd X) κ (cell (c, i))) ∗ reached ER (cell (c, i)) 0) : sProp 𝕄)
      ⊢ iprop(∃ K, records X K) := by
    rw [← bigSep_univ_prod (fun p : Dev nD × CIx => iprop((∃ κ : ℕ, cellInv ER (Rd X) κ (cell p)) ∗ reached ER (cell p) 0)), bigSep_sep']
    iintro ⟨HI, HR⟩
    ihave HK := (BI.bigSep_exists_pi Finset.univ (fun (p : Dev nD × CIx) (κ : ℕ) => (cellInv ER (Rd X) κ (cell p) : sProp 𝕄))) $$ HI
    icases HK with ⟨%K, HI⟩
    iexists K
    unfold records
    rw [bigSep_sep']
    isplitl [HI] <;> iassumption
  have hG (K : Dev nD × CIx → ℕ) (c : Dev nD) : iprop(records X K ∗ poss F c 0 ∗ payToks F c ∗ localSems F c) ⊢ (G' X c : sProp 𝕄) := by
    unfold G'; iintro H; iexists K; iexact H
  unfold made
  simp only [bigSep_sep' (Finset.univ : Finset (Dev nD))]
  iintro ⟨HI, Hat, Htok, Hl⟩
  ihave HK := hI $$ HI
  icases HK with ⟨%K, #HI⟩
  ihave Htk := (toks_around F) $$ Htok
  iapply (bigSep_with_all (R := records X K) fun c _ => hG K c)
  isplitr; · iexact HI
  simp only [bigSep_sep' (Finset.univ : Finset (Dev nD))]
  isplitl [Hat]; · iexact Hat
  isplitl [Htk] <;> iassumption

theorem glob : (bigSep Finset.univ fun c => iprop(ownSems0 osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end Glob

/-! ## The credit at launch -/

theorem sum_bar_bar (c : Dev nD) : ∑ e : Dev nD, tallyAt (barCell e) () 1 (barCell c) () = 1 := by
  rw [Finset.sum_eq_single c (fun e _ h => by rw [tallyAt_apply, if_neg fun h' => h (congrArg (fun g : GSem nD τ sig => g.1.1) h'.1).symm])
    (fun h => absurd (Finset.mem_univ c) h), tallyAt_apply, if_pos ⟨rfl, rfl⟩]
theorem sum_bar_x (a : Fin 4) (c : Dev nD) (k : Fin 17) : ∑ e : Dev nD, tallyAt (barCell e) () 1 (xcell a c k) () = 0 :=
  Finset.sum_eq_zero fun e _ => by rw [tallyAt_apply, if_neg fun h => xcell_ne_bar _ _ _ _ h.1]
theorem sum_owe_bar (a : Fin 4) (c : Dev nD) : ∑ e : Dev nD, owe a e 0 (barCell c) () = 0 :=
  Finset.sum_eq_zero fun e _ => by
    rw [owe_apply]; exact Finset.sum_eq_zero fun k _ => by rw [tallyAt_apply, if_neg fun h => xcell_ne_bar _ _ _ _ h.1.symm]
theorem sum_owe_ne {a b : Fin 4} (h : a ≠ b) (c : Dev nD) (k : Fin 17) : ∑ e : Dev nD, owe a e 0 (xcell b c k) () = 0 :=
  Finset.sum_eq_zero fun e _ => by
    rw [owe_apply]; exact Finset.sum_eq_zero fun k _ => by rw [tallyAt_apply, if_neg fun h' => h (xcell_inj h'.1).1.symm]
theorem sum_owe_eq (a : Fin 4) (c : Dev nD) (k : Fin 17) : ∑ e : Dev nD, owe a e 0 (xcell a c k) () = NC k := by
  rw [Finset.sum_eq_single c (fun e _ h => by
    rw [owe_apply]; exact Finset.sum_eq_zero fun k _ => by rw [tallyAt_apply, if_neg fun h' => h (xcell_inj h'.1).2.1.symm])
    (fun h => absurd (Finset.mem_univ c) h), owe_apply, rangeSet_univ,
    Finset.sum_eq_single k (fun j _ h => by rw [tallyAt_apply, if_neg fun h' => h (xcell_inj h'.1).2.2.symm]) (fun h => absurd (Finset.mem_univ k) h),
    tallyAt_apply, if_pos ⟨rfl, rfl⟩]

/-- What all devices owe a cell, counted by the device it is owed to. -/
theorem sum_owed (g : GSem nD τ sig) : ∑ d : Dev nD, O₀ d g () = ((∑ e : Dev nD, owe 3 e 0 g () + ∑ e : Dev nD, owe 1 e 0 g ())
    + ∑ e : Dev nD, tallyAt (barCell e) () 1 g ()) + ∑ e : Dev nD, tallyAt (barCell e) () 1 g () := by
  have hy (f : Dev nD → ℕ) : ∑ d, f (yp d) = ∑ e, f e := Equiv.sum_comp yEquiv f
  have hx (f : Dev nD → ℕ) : ∑ d, f (xn d) = ∑ e, f e := Equiv.sum_comp xEquiv f
  have h : ∑ d : Dev nD, O₀ d g () = ((∑ d : Dev nD, owe 3 (xn d) 0 g () + ∑ d : Dev nD, owe 1 (yp d) 0 g ())
      + ∑ d : Dev nD, tallyAt (barCell (xn d)) () 1 g ()) + ∑ d : Dev nD, tallyAt (barCell (yp d)) () 1 g () := by
    simp only [← Finset.sum_add_distrib]; rfl
  rw [h, hx fun e => owe 3 e 0 g (), hy fun e => owe 1 e 0 g (), hx fun e => tallyAt (barCell e) () 1 g (), hy fun e => tallyAt (barCell e) () 1 g ()]

theorem launch_at {g : GSem nD τ sig} {n : ℕ} (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [launchCredit_owing, Finsupp.single_eq_same, h]

omit [FloatOps F] in
theorem creds (c : Dev nD) : (launchCred O₀ c : sProp 𝕄)
    ⊢ iprop(cred (tallyAt (barCell c) () 2) ∗ bigSep Finset.univ (due F c 1) ∗ bigSep Finset.univ (due F c 3)) := by
  have hb : tallyOn (barCell c) (launchCredit (Pipeline.owing O₀) 0 (barCell c)) = (tallyAt (barCell c) () 2 : CellTallies nD τ sig Unit) :=
    launch_at (by rw [sum_owed, sum_owe_bar, sum_owe_bar, sum_bar_bar])
  have h1 (k : Fin 17) : tallyOn (xcell 1 c k) (launchCredit (Pipeline.owing O₀) 0 (xcell 1 c k)) = (tallyAt (xcell 1 c k) () (NC k) : CellTallies nD τ sig Unit) :=
    launch_at (by rw [sum_owed, sum_owe_ne (by decide), sum_owe_eq, sum_bar_x, Nat.zero_add, Nat.add_zero])
  have h3 (k : Fin 17) : tallyOn (xcell 3 c k) (launchCredit (Pipeline.owing O₀) 0 (xcell 3 c k)) = (tallyAt (xcell 3 c k) () (NC k) : CellTallies nD τ sig Unit) :=
    launch_at (by rw [sum_owed, sum_owe_eq, sum_owe_ne (by decide), sum_bar_x, Nat.add_zero])
  have hs : (launchCred O₀ c : sProp 𝕄) ⊢ bigSep Finset.univ fun i : CIx => cred (tallyOn (cell (c, i)) (launchCredit (Pipeline.owing O₀) 0 (cell (c, i)))) := by
    unfold launchCred
    refine (bigSep_subset (Finset.subset_univ (Finset.univ.map ⟨csem, csem_injective⟩))).trans ?_
    rw [bigSep_map]
    rfl
  refine hs.trans ?_
  rw [bigSep_cells]
  have e1 : (bigSep Finset.univ fun k => cred (tallyOn (cell (c, .inr (1, k))) (launchCredit (Pipeline.owing O₀) 0 (cell (c, .inr (1, k))))) : sProp 𝕄)
      = bigSep Finset.univ (due F c 1) := bigSep_congr fun k _ => congrArg cred (h1 k)
  have e3 : (bigSep Finset.univ fun k => cred (tallyOn (cell (c, .inr (3, k))) (launchCredit (Pipeline.owing O₀) 0 (cell (c, .inr (3, k))))) : sProp 𝕄)
      = bigSep Finset.univ (due F c 3) := bigSep_congr fun k _ => congrArg cred (h3 k)
  rw [e1, e3]
  have e0 : (cred (tallyOn (cell (c, .inl ())) (launchCredit (Pipeline.owing O₀) 0 (cell (c, .inl ())))) : sProp 𝕄)
      = cred (tallyAt (barCell c) () 2) := congrArg cred hb
  rw [e0]
  iintro ⟨HB, -, H1, -, H3⟩
  isplitl [HB]; · iexact HB
  isplitl [H1] <;> iassumption

end Cert.Transpose
-- ==== Proof.Launch.lean ====
/-
The run of the whole program: every device ends with its argument as it was and its result in place.
-/
module

public import proofs.«01_k».proof.Proof.Pieces
public import proofs.«01_k».proof.Proof.Deal
public import Idealize.ShloMosaic.Lib.Pipeline.CollectiveSegs

@[expose] public section

noncomputable section

namespace Cert.Transpose

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring Idealize.ShloMosaic.Pipeline

variable {F : FTy → Type} [FloatOps F]

local notation "𝕄" => MT nD τ sig Unit (Elt F) ℕ UU ℕ

/-! ## The cells close -/

section Close
variable (X : Dev nD → S16384x2048.Idx → Elt F .f32) (K : Dev nD × CIx → ℕ) (c : Dev nD)

theorem records_inv (p : Dev nD × CIx) : records X K ⊢ cellInv ER (Rd X) (K p) (cell p) :=
  (bigSep_elim (Finset.mem_univ p)).trans (sep_elim_left (PROP := sProp 𝕄))

/-- After its one round a kind's cells give their semaphores back at zero; -/
theorem close_x (a : Fin 4) : iprop(records X K ∗ bigSep Finset.univ (pos F c a 1))
    ⊢ (|={Set.univ}=> bigSep Finset.univ fun k => semVal (xcell a c k) 0 : sProp 𝕄) := by
  have h (k : Fin 17) : iprop(records X K ∗ pos F c a 1 k) ⊢ (iprop(cellInv ER (Rd X) (K (c, .inr (a, k))) (xcell a c k) ∗ atPos ER (xcell a c k) 1 ∅ 0) : sProp 𝕄) :=
    sep_mono_left (records_inv X K (c, .inr (a, k)))
  exact (bigSep_with_all fun k _ => h k).trans (Rounds.cells_close ER (Rd X) Finset.univ (fun k => xcell a c k) (fun k => K (c, .inr (a, k)))
    (fun _ _ => Set.mem_univ _) (fun _ _ h => h) (fun _ => 1) (fun k _ => duties_later X (xcell a c k)))

/-- so does the barrier cell. -/
theorem close_bar : iprop(records X K ∗ atPos ER (barCell c) 1 ∅ 0) ⊢ (|={Set.univ}=> semVal (barCell c) 0 : sProp 𝕄) :=
  (sep_mono_left (records_inv X K (c, .inl ()))).trans
    (Rounds.cell_close ER (Rd X) (Set.mem_univ (K (c, .inl ()))) (fun h => h) (R := 0 + 1) (duties_later X (barCell c)))

end Close

/-! ## Before and after the body -/

variable (m : (ℓ : Loc nD τ sig) → Buf (Elt F) ℓ) (ρ : Dev nD → PrngReg)

/-- The argument's part on each device. -/
abbrev args : Dev nD → S16384x2048.Idx → Elt F .f32 := fun c => m (aLoc c)

def atStart (c : Dev nD) : sProp 𝕄 :=
  iprop(G' (args m) c ∗ (cred (tallyAt (barCell c) () 2) ∗ bigSep Finset.univ (due F c 1) ∗ bigSep Finset.univ (due F c 3)) ∗ levAts L lv
    ∗ (aLoc c ↦{fullShare} args m c) ∗ (oLoc c ↦{fullShare} m (oLoc c)))

def buffers (c : Dev nD) : sProp 𝕄 := iprop((∃ f, sLoc c ↦{fullShare} f) ∗ (∃ f, tLoc c ↦{fullShare} f))

def Φ₀ (c : Dev nD) : sProp 𝕄 := iprop(atStart m c ∗ buffers (F := F) c)
def Φ₁ (c : Dev nD) : sProp 𝕄 :=
  iprop(((aLoc c ↦{fullShare} args m c) ∗ (oLoc c ↦{fullShare} outAt (args m) c) ∗ unscopedSems0 c) ∗ ownSems0 osem c ∗ buffers (F := F) c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

section Ends
variable (X : Dev nD → S16384x2048.Idx → Elt F .f32) (c : Dev nD)

/-- What a device has at the start, cut into the pieces that its operations move. -/
theorem begin_body (f : S32768x1024.Idx → Elt F .f32) :
    iprop(((poss F c 0 ∗ payToks F c ∗ localSems F c) ∗ (cred (tallyAt (barCell c) () 2) ∗ bigSep Finset.univ (due F c 1) ∗ bigSep Finset.univ (due F c 3))
        ∗ (aLoc c ↦{fullShare} X c) ∗ (oLoc c ↦{fullShare} f)) ∗ buffers (F := F) c)
      ⊢ (iprop(begun X c ∗ argRest X c) : sProp 𝕄) := by
  have h1 : (bigSep Finset.univ fun k => iprop(argSent X c k ∗ stageAny c k ∗ semVal (stageCell c k) 0) : sProp 𝕄)
      = iprop(bigSep Finset.univ (argSent X c) ∗ bigSep Finset.univ (stageAny (F := F) c) ∗ bigSep Finset.univ fun k => semVal (stageCell c k) 0) := by
    rw [bigSep_sep', bigSep_sep']
  have h2 : bigSep Finset.univ (fresh X c) = iprop(bigSep Finset.univ (argKept X c) ∗ bigSep Finset.univ (outKept (F := F) c)) := bigSep_sep' _ _ _
  have h3 : bigSep Finset.univ (slotFree (F := F) c) = iprop(bigSep Finset.univ (slotAny (F := F) c)
      ∗ (bigSep Finset.univ fun j => semVal (readCell c j) 0) ∗ bigSep Finset.univ fun j => semVal (writeCell c j) 0) :=
    (bigSep_sep' _ _ _).trans (congrArg (fun Y => iprop(_ ∗ Y)) (bigSep_sep' _ _ _))
  unfold begun buffers poss payToks localSems
  rw [h1, h2, h3]
  iintro ⟨⟨⟨⟨Hpb, Hp0, Hp1, Hp2, Hp3⟩, ⟨⟨Htb, Htb'⟩, Ht1, Ht2⟩, Hv1, Hv2, Hv3⟩, ⟨Hcb, Hd1, Hd3⟩, Ha, Ho⟩, Hs, Ht⟩
  ihave Ha := (arg_split X c) $$ Ha
  icases Ha with ⟨⟨Has, Hak⟩, Har⟩
  ihave Ho := (out_split c f) $$ Ho
  icases Ho with ⟨Hy, Hx, Hok⟩
  ihave Hs := (stage_split c) $$ Hs
  ihave Ht := (slots_split c) $$ Ht
  isplitr [Har]
  · isplitl [Has Hs Hv1 Hak Hok Ht Hv2 Hv3]
    · isplitl [Has Hs Hv1]
      · isplitl [Has]; · iexact Has
        isplitl [Hs]; · iexact Hs
        iexact Hv1
      isplitl [Hak Hok]
      · isplitl [Hak]; · iexact Hak
        iexact Hok
      isplitl [Ht]; · iexact Ht
      isplitl [Hv2]; · iexact Hv2
      iexact Hv3
    isplitl [Hy Hx Htb Htb' Hcb Hpb]
    · isplitl [Hy Hx]
      · isplitl [Hy]; · iexact Hy
        iexact Hx
      isplitl [Htb Htb']
      · isplitl [Htb]; · iexact Htb
        iexact Htb'
      isplitl [Hcb]; · iexact Hcb
      iexact Hpb
    isplitl [Ht1]; · iexact Ht1
    isplitl [Ht2]; · iexact Ht2
    isplitl [Hd1 Hd3]
    · isplitl [Hd1]; · iexact Hd1
      iexact Hd3
    isplitl [Hp0]; · iexact Hp0
    isplitl [Hp1]; · iexact Hp1
    isplitl [Hp2]; · iexact Hp2
    iexact Hp3
  iexact Har

/-- What a device has at the end, put together again. -/
theorem end_body (K : Dev nD × CIx → ℕ) (f₀ : S8192x1024.Idx → Elt F .f32) (g₀ : S4x1024x1024.Idx → Elt F .f32) :
    iprop(records X K ∗ ended X c ∗ argRest X c)
      ⊢ (|={Set.univ}=> iprop(((aLoc c ↦{fullShare} X c) ∗ (oLoc c ↦{fullShare} outAt X c) ∗ unscopedSems0 c) ∗ ownSems0 osem c ∗ buffers (F := F) c) : sProp 𝕄) := by
  have h1 : (bigSep Finset.univ fun k => iprop(argSent X c k ∗ semVal (stageCell c k) 0) : sProp 𝕄)
      = iprop(bigSep Finset.univ (argSent X c) ∗ bigSep Finset.univ fun k => semVal (stageCell c k) 0) := bigSep_sep' _ _ _
  have h2 : bigSep Finset.univ (finished X c) = iprop(bigSep Finset.univ (argKept X c) ∗ bigSep Finset.univ (outDone X c)) := bigSep_sep' _ _ _
  have h3 : bigSep Finset.univ (slotFree (F := F) c) = iprop(bigSep Finset.univ (slotAny (F := F) c)
      ∗ (bigSep Finset.univ fun j => semVal (readCell c j) 0) ∗ bigSep Finset.univ fun j => semVal (writeCell c j) 0) :=
    (bigSep_sep' _ _ _).trans (congrArg (fun Y => iprop(_ ∗ Y)) (bigSep_sep' _ _ _))
  unfold ended buffers
  rw [h1, h2, h3, ownSems0_split, unscopedSems0_bar, bigSep_kinds]
  iintro ⟨#HI, ⟨⟨Has, Hv1⟩, Hst, ⟨Hak, Hod⟩, ⟨Hsl, Hv2, Hv3⟩, HB, HC, Hab, Hp0, Hp1, Hp2, Hp3⟩, Har⟩
  imod (close_bar X K c) $$ [Hab] with Hzb
  · isplitr; · iexact HI
    iexact Hab
  imod (close_x X K c 0) $$ [Hp0] with Hz0
  · isplitr; · iexact HI
    iexact Hp0
  imod (close_x X K c 1) $$ [Hp1] with Hz1
  · isplitr; · iexact HI
    iexact Hp1
  imod (close_x X K c 2) $$ [Hp2] with Hz2
  · isplitr; · iexact HI
    iexact Hp2
  imod (close_x X K c 3) $$ [Hp3] with Hz3
  · isplitr; · iexact HI
    iexact Hp3
  imodintro
  isplitl [Has Hak Har HB HC Hod Hzb]
  · isplitl [Has Hak Har]
    · iapply (arg_join X c)
      isplitl [Has Hak]
      · isplitl [Has]; · iexact Has
        iexact Hak
      iexact Har
    isplitl [HB HC Hod]
    · iapply (out_join X c)
      isplitl [HB]; · iexact HB
      isplitl [HC]; · iexact HC
      iexact Hod
    iexact Hzb
  isplitl [Hv1 Hv2 Hv3 Hz0 Hz1 Hz2 Hz3]
  · isplitl [Hv1]; · iexact Hv1
    isplitl [Hv2]; · iexact Hv2
    isplitl [Hv3]; · iexact Hv3
    isplitl [Hz0]; · iexact Hz0
    isplitl [Hz1]; · iexact Hz1
    isplitl [Hz2]; · iexact Hz2
    iexact Hz3
  isplitl [Hst]
  · iapply (stage_join c f₀) $$ Hst
  iapply (slots_join c g₀) $$ Hsl

end Ends

/-! ## The body's obligation -/

omit [FloatOps F] in
theorem no_windows (Φ : Fin cfg0.W → sProp 𝕄) : bigSep Finset.univ Φ = BI.emp := by
  rw [show (Finset.univ : Finset (Fin cfg0.W)) = ∅ from rfl, BI.bigSep_empty]

set_option maxRecDepth 100000 in
theorem obligation (c : Dev nD) : BodyObligation (dats m 0 c) (defs₀ (F := F)) 𝒱₀ () Set.univ := fun t => by
  rw [fin_N0 t, no_windows, no_windows]
  show iprop(Φ₀ m c ∗ (dats m 0 c).owesAt () t0_0.castSucc ∗ BI.emp) ⊢ wp frame (wpE (defs₀ (F := F)) 𝒱₀ c none) Set.univ (bodyAt0 t0_0)
    (fun _ => iprop(Φ₁ m c ∗ (dats m 0 c).owesAt () t0_0.succ ∗ BI.emp))
  rw [body_eq, wp_deviceId]
  unfold Φ₀ atStart G' Dat.owesAt owesWithin
  rw [show (dats m 0 c).owed t0_0.castSucc = O₀ c from rfl, show (dats m 0 c).owed t0_0.succ = 0 from rfl]
  iintro ⟨⟨⟨⟨%K, #HI, Hg⟩, Hd, #Hlev, Hm⟩, Hb⟩, ⟨%W, %hW, HO⟩, -⟩
  ihave Hbeg := (begin_body (args m) c (m (oLoc c))) $$ [Hg Hd Hm Hb]
  · isplitr [Hb]
    · isplitl [Hg]; · iexact Hg
      isplitl [Hd]; · iexact Hd
      iexact Hm
    iexact Hb
  icases Hbeg with ⟨Hbeg, Har⟩
  iapply (run_body (X := args m) (K := K) (c := c) _ _) $$ [HO Hbeg]
  · isplitr
    · unfold ctx; isplitr; · iexact HI
      iexact Hlev
    isplitl [HO]
    · unfold owing; iexists W; iexact HO
    iexact Hbeg
  unfold owing
  iintro ⟨⟨%W', HO⟩, Hend⟩
  rw [Prog.pure_eq_ret, wp_ret]
  imod (end_body (args m) c K (m (sLoc c)) (m (tLoc c))) $$ [Hend Har] with HΦ
  · isplitr; · iexact HI
    isplitl [Hend]; · iexact Hend
    iexact Har
  imodintro
  isplitl [HΦ]; · unfold Φ₁; iexact HΦ
  isplitl [HO]
  · iexists W'
    isplitr; · ipureintro; exact fun _ _ => Or.inl trivial
    iexact HO
  iempintro

/-! ## The launch's side conditions -/

theorem start_intro (c : Dev nD) :
    iprop(unscopedRestP Prefetch.none cfg0.spec c (fun b => m ((c : Thread nD τ).loc b)) ∗ levAts L lv ∗ launchCred O₀ c ∗ prngReg c (ρ c) ∗ G' (args m) c)
      ⊢ (|={Set.univ}=> iprop(atStart m c ∗ emp) : sProp 𝕄) := by
  rw [unscopedRestP_none, unscopedRest0_eq]
  iintro ⟨⟨Ha, Ho⟩, Hlev, Hcr, -, HG⟩
  ihave Hc := (creds (F := F) c) $$ Hcr
  imodintro
  unfold atStart
  isplitl
  · isplitl [HG]; · iexact HG
    isplitl [Hc]; · iexact Hc
    isplitl [Hlev]; · iexact Hlev
    isplitl [Ha]; · iexact Ha
    iexact Ho
  iempintro

theorem enter (c : Dev nD) :
    iprop(atStart m c ∗ prefHeld Prefetch.none c (fun _ => fullShare.right) (fun k => k.elim0) ∗ scopedRest cfg0.spec c) ⊢ (dats m 0 c).Φ 0 := by
  rw [show (dats m 0 c).Φ 0 = Φ₀ m c from rfl, scopedRest0_eq]
  unfold Φ₀ buffers
  iintro ⟨Hs, -, Hb⟩
  isplitl [Hs]; · iexact Hs
  iexact Hb

def left (c : Dev nD) : sProp 𝕄 := iprop((aLoc c ↦{fullShare} args m c) ∗ (oLoc c ↦{fullShare} outAt (args m) c) ∗ unscopedSems0 c)

theorem leave (c : Dev nD) : (dats m 0 c).Φ (Fin.last cfg0.N) ⊢ iprop(left m c ∗ ownSems0 osem c ∗ scopedRest cfg0.spec c) := by
  rw [show (dats m 0 c).Φ (Fin.last cfg0.N) = Φ₁ m c from rfl, scopedRest0_eq]
  unfold Φ₁ buffers left
  exact Entails.refl _

theorem waits (c : Dev nD) : (levAts L lv : sProp 𝕄) ⊢ cellsWaits cfgs (dats m) () 0 c :=
  cellsWaits_intro cfgs (dats m) () 0 c fun w => w.elim0

/-- What is read off a device's memory at the end. -/
def Ends (c : Dev nD) (s : MemSt nD τ sig (Elt F)) : Prop :=
  (s.mem (aLoc c) = args m c ∧ s.mem (oLoc c) = outAt (args m) c) ∧ ∀ sm : SemLoc sig, sm.isScoped .tc = false → s.sem ((c.tc : Thread nD τ), sm) = 0

theorem read_end (c : Dev nD) (s' : Phys nD τ sig (Elt F)) : iprop(left m c ∗ emp ∗ SI s') ⊢ (|={Set.univ}=> iprop(⌜Ends m c s'.mem⌝ ∗ SI s') : sProp 𝕄) := by
  unfold left
  iintro ⟨⟨Ha, Ho, Hu⟩, -, HSI⟩
  imod (unscopedSems0_read (X := unscopedSems0 c) (c := c) fupd_intro s') $$ [Hu HSI] with ⟨%hu, HSI⟩
  · isplitl [Hu] <;> iassumption
  icombine HSI Ha gives %ha
  icombine HSI Ho gives %ho
  imodintro
  isplitr
  · ipureintro; exact ⟨⟨Buf.eq_of_forall_mem_univ ha, Buf.eq_of_forall_mem_univ ho⟩, hu⟩
  iexact HSI

omit [FloatOps F] in
/-- The launch's ghost element is the pipeline's and the exchange's. -/
theorem start_parts (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## The run -/

set_option maxRecDepth 100000 in
/-- From any memory with the counters at zero every run of the program ends, with each device's argument as it was, its
    result holding the rows that it is to receive, and every counter at zero. -/
theorem run_main : θ_run defs (onTc (τ := τ) (main (F := F))) ⟨m, fun _ => 0, ρ⟩
    (fun r => (∀ c : Dev nD, r.2.mem (aLoc c) = m (aLoc c) ∧ r.2.mem (oLoc c) = outAt (args m) c) ∧ r.2.sem = fun _ => 0) :=
  θ_run_region_owing_glob_pf (fun p => (cfgs p).toPCfg) (fun p => (cfgs p).toPCfg_adm) (dats m) () cellOf_inj (0 : Fin 1)
    winFacts0.to₀ ownSemFacts (PreFacts.none _) EP defs₀ 𝒱₀ m ρ main
    (hmain := fun _ => rfl) (hbody := obligation m) (hne := fun w => w.elim0) (harr := arr_whole0) (hstage := stage_whole0)
    (hshare := fun _ w => w.elim0) (hdistinct := winFacts0.arr_inj)
    (O₀ := O₀) (howed₀ := fun _ => rfl) (howedN := fun _ => rfl) (L := L) (lv := lv) (hL := L_of_ne) (hwaits := waits m)
    (G := G (args m)) (G' := G' (args m)) (u₀ := u₀)
    (hu₀ := by
      unfold u₀
      iintro Hu
      ihave H := (start_parts _ _) $$ Hu
      icases H with ⟨HP, HX⟩
      imod (fund_all (args m)) $$ HX with HG
      imodintro
      isplitl [HP] <;> iassumption)
    (hglob := glob (args m)) (hA := fun _ w => w.elim0) (hpf := fun _ k => k.elim0)
    (X := atStart m) (Y := left m) (Z := fun _ => iprop(emp)) (hX := start_intro m ρ) (hin := enter m) (hout := leave m)
    (QY := Ends m) (hY := read_end m)
    (hQ := fun _ h hs => ⟨fun c => (h c).2.2.1, sem_eq_zero hs fun c => (h c).2.2.2⟩)

end Cert.Transpose
-- ==== Proof.Value.lean ====
/-
What the run's result is of the whole array: the columns of all rows that a device's place in the mesh names.
-/
module

public import proofs.«01_k».proof.Defs
public import proofs.«01_k».proof.Proof.Launch
public import proofs.«01_k».proof.Proof.Gen.Kernel
public import proofs.«01_k».proof.Proof.Gen.ReferenceIdeal
public import Idealize.ShloMosaic.Lib.Layout
public import Idealize.ShloMosaic.Lib.StableHlo.Run
public import Idealize.ShloMosaic.Lib.Quiescent

@[expose] public section

noncomputable section

/-! ## The reference: no operation -/

namespace Cert.Transpose.Reference

open Cert.ReferenceIdeal Cert.ReferenceIdeal.Gen Idealize.ShloMosaic Idealize.ShloMosaic.StableHlo Idealize.SL.Sem

/-- The reference leaves every device's argument, which is its result, as it was. -/
theorem run (m : (ℓ : Loc nD τ sig) → Buf (Elt Ideal) ℓ) (ρ : Dev nD → PrngReg) :
    θ_run defs (onTc (τ := τ) (main (F := Ideal))) ⟨m, fun _ => 0, ρ⟩
      fun r => ∀ c : Dev nD, r.2.mem ((c.tc : Thread nD τ).loc main_arg0) = m ((c.tc : Thread nD τ).loc main_arg0) :=
  (θ_run defs _ _).mono (fun _ h c => h c main_arg0)
    (run_seq (by decide) (by decide) defs main (fun _ => []) (fun _ => rfl) (fun _ => trivial) m ρ)

end Cert.Transpose.Reference

namespace Cert.Transpose

open Idealize.ShloMosaic Idealize.ShloMosaic.TcCoe Idealize.SL.Sem

/-! ## The whole array -/

/-- The rows of `d`'s result that lie in a column of the mesh come from a device of that column. -/
theorem src_col (d : Dev Cert.KernelIdeal.nD) (r : ℕ) (hr : r < 32768) : (src d r hr).val % 2 = r / 16384 := by
  unfold src
  split
  · omega
  · dsimp only; omega

/-- Where each device's argument is its column's block of rows of `V`, its result is its column's block of columns. -/
theorem outAt_block {F : FTy → Type} (X : Dev Cert.KernelIdeal.nD → Cert.KernelIdeal.S16384x2048.Idx → Elt F .f32)
    (V : (⟨2, ![32768, 2048]⟩ : Shape).Idx → Elt F .f32)
    (h : ∀ c : Dev Cert.KernelIdeal.nD, X c = Layout.blockN ⟨2, ![16384, 2048]⟩ ⟨2, ![32768, 2048]⟩ (Layout.meshBlock [2, 2] ![[1], []] c) V)
    (d : Dev Cert.KernelIdeal.nD) :
    outAt X d = Layout.blockN ⟨2, ![32768, 1024]⟩ ⟨2, ![32768, 2048]⟩ (Layout.meshBlock [2, 2] ![[], [1]] d) V := by
  funext i
  have hr : (i 0).val < 32768 := (i 0).isLt
  have hs := src_col d (i 0).val hr
  have hcol (c : Dev Cert.KernelIdeal.nD) : Layout.meshLin [2, 2] c.val [1] = c.val % 2 := by revert c; decide
  unfold outAt
  rw [h, Layout.blockN_apply, Layout.blockN_apply]
  refine congrArg V (funext fun a => Fin.ext ?_)
  rw [Layout.TilesN.idx_val, Layout.TilesN.idx_val, Layout.meshBlock_val, Layout.meshBlock_val]
  fin_cases a
  · show Layout.meshLin [2, 2] (src d (i 0).val hr).val [1] * 16384 + (i 0).val % 16384 = 0 * 32768 + (i 0).val
    rw [hcol, hs]
    omega
  · show 0 * 2048 + (1024 * (d.val % 2) + (i 1).val) = Layout.meshLin [2, 2] d.val [1] * 1024 + (i 1).val
    rw [hcol]
    omega

/-! ## The claims -/

theorem frame_kernel : Cert.quiescent_Kernel := fun m ρ _ =>
  (θ_run Cert.KernelIdeal.defs _ _).mono (fun _ h => ⟨fun c => (h.1 c).1, h.2⟩) (run_main (F := Bits) m ρ)

theorem frame_ideal : Cert.quiescent_KernelIdeal := fun m ρ _ =>
  (θ_run Cert.KernelIdeal.defs _ _).mono (fun _ h => ⟨fun c => (h.1 c).1, h.2⟩) (run_main (F := Ideal) m ρ)

theorem frame_reference : Cert.quiescent_ReferenceIdeal := fun m ρ _ =>
  (θ_run Cert.ReferenceIdeal.defs _ _).mono (fun r h => ⟨h, sem_eq_zero_of_no_sems (by decide) r.2⟩) (Reference.run m ρ)

/-- Each device's result is its block of columns of what the reference returns. -/
theorem same_function : Cert.algebraic_KernelIdeal_ReferenceIdeal := by
  intro m ρ m' ρ' _ hm
  refine ⟨_, (θ_run Cert.KernelIdeal.defs _ _).mono (fun _ h c => ⟨(h.1 c).2.trans (outAt_block (args m) _ hm c), (h.1 c).1⟩) (run_main (F := Ideal) m ρ),
    (θ_run Cert.ReferenceIdeal.defs _ _).mono (fun _ h => ⟨h 0, h 0⟩) (Reference.run m' ρ')⟩

end Cert.Transpose
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Transpose.frame_kernel, Cert.Transpose.frame_ideal, Cert.Transpose.frame_reference, trivial, Cert.Transpose.same_function⟩

end Cert.Proof

end
